-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_combos_name_points [hPre_combos_name_points : Cert.Pre_combos_name_points.Facts] (m : (ℓ : Loc Cert.KernelIdeal.nD Cert.KernelIdeal.τ Cert.KernelIdeal.sig) → Buf (Elt Ideal) ℓ) : Prop :=
  ∀ c : Dev Cert.KernelIdeal.nD,
    (Cert.Pre_combos_name_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_combos_name_points [hPre_combos_name_points : Cert.Pre_combos_name_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_combos_name_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_combos_name_points [hKernelIdeal : Cert.KernelIdeal.Facts] [hPre_combos_name_points : Cert.Pre_combos_name_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_combos_name_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_combos_name_points [hReferenceIdeal : Cert.ReferenceIdeal.Facts] [hPre_combos_name_points : Cert.Pre_combos_name_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_combos_name_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_combos_name_points [hKernelIdeal : Cert.KernelIdeal.Facts] [hReferenceIdeal : Cert.ReferenceIdeal.Facts] [hPre_combos_name_points : Cert.Pre_combos_name_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_combos_name_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v22) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_combos_name_points : Cert.Pre_combos_name_points.Facts),
    quiescent_Kernel (hKernel := hKernel)
    ∧ quiescent_KernelIdeal (hKernelIdeal := hKernelIdeal)
    ∧ quiescent_KernelIdeal_pre_combos_name_points (hKernelIdeal := hKernelIdeal) (hPre_combos_name_points := hPre_combos_name_points)
    ∧ quiescent_ReferenceIdeal (hReferenceIdeal := hReferenceIdeal)
    ∧ quiescent_ReferenceIdeal_pre_combos_name_points (hReferenceIdeal := hReferenceIdeal) (hPre_combos_name_points := hPre_combos_name_points)
    ∧ preserves_Kernel_KernelIdeal
    ∧ algebraic_KernelIdeal_ReferenceIdeal_pre_combos_name_points (hKernelIdeal := hKernelIdeal) (hReferenceIdeal := hReferenceIdeal) (hPre_combos_name_points := hPre_combos_name_points)
-- ==== Pre_combos_name_points.lean ====
abbrev S1024x3x256 : Shape := ⟨3, ![1024, 3, 256]⟩
abbrev S1024x3 : Shape := ⟨2, ![1024, 3]⟩
abbrev S3x64 : Shape := ⟨2, ![3, 64]⟩
abbrev S64 : Shape := ⟨1, ![64]⟩
abbrev S64x1 : Shape := ⟨2, ![64, 1]⟩
abbrev S1 : Shape := ⟨1, ![1]⟩
abbrev S1024x64x3 : Shape := ⟨3, ![1024, 64, 3]⟩
abbrev S_ : Shape := ⟨0, ![]⟩

class Facts : Prop where
  bcast_S_S1024x64x3 : S_.BroadcastsInDim S1024x64x3 (![] : Fin 0 → Fin S1024x64x3.rank)

variable [Facts]

def fn {F : FTy → Type} [FloatOps F] (main_arg0 : FVec F S1024x3x256 .f32) (main_arg1 : FVec F S1024x3 .f32) (main_arg2 : FVec F S3x64 .f32) (main_arg3 : FVec F S64 .f32) (main_arg4 : FVec F S64x1 .f32) (main_arg5 : FVec F S1 .f32) (main_arg6 : IVec S1024x64x3 32) : IVec S1024x64x3 1 :=
  let main_c : IVec S_ 32 := constantI S_ 32 0#32
  let main_v0 : IVec S1024x64x3 32 := broadcastInDim S1024x64x3 ![] bcast_S_S1024x64x3 main_c
  let main_v1 : IVec S1024x64x3 1 := cmpi .sge main_arg6 main_v0
  let main_c_0 : IVec S_ 32 := constantI S_ 32 128#32
  let main_v2 : IVec S1024x64x3 32 := broadcastInDim S1024x64x3 ![] bcast_S_S1024x64x3 main_c_0
  let main_v3 : IVec S1024x64x3 1 := cmpi .slt main_arg6 main_v2
  let main_v4 : IVec S1024x64x3 1 := andi main_v1 main_v3
  main_v4
-- ==== Kernel.lean ====
abbrev S1024x3x256 : Shape := ⟨3, ![1024, 3, 256]⟩
abbrev S1024x3 : Shape := ⟨2, ![1024, 3]⟩
abbrev S3x64 : Shape := ⟨2, ![3, 64]⟩
abbrev S64 : Shape := ⟨1, ![64]⟩
abbrev S64x1 : Shape := ⟨2, ![64, 1]⟩
abbrev S1 : Shape := ⟨1, ![1]⟩
abbrev S1024x64x3 : Shape := ⟨3, ![1024, 64, 3]⟩
abbrev S1024x64x1 : Shape := ⟨3, ![1024, 64, 1]⟩
abbrev S1024x64 : Shape := ⟨2, ![1024, 64]⟩
abbrev S1024x192 : Shape := ⟨2, ![1024, 192]⟩
abbrev S1024x256x3 : Shape := ⟨3, ![1024, 256, 3]⟩
abbrev S_ : Shape := ⟨0, ![]⟩
abbrev S256x256 : Shape := ⟨2, ![256, 256]⟩
abbrev S1024x1x3 : Shape := ⟨3, ![1024, 1, 3]⟩
abbrev S1x64 : Shape := ⟨2, ![1, 64]⟩
abbrev S1x1 : Shape := ⟨2, ![1, 1]⟩
abbrev S1024x1x192 : Shape := ⟨3, ![1024, 1, 192]⟩
abbrev S1024x1x8 : Shape := ⟨3, ![1024, 1, 8]⟩
abbrev S1024x3x128 : Shape := ⟨3, ![1024, 3, 128]⟩
abbrev S64x3x256 : Shape := ⟨3, ![64, 3, 256]⟩
abbrev S64x256x3 : Shape := ⟨3, ![64, 256, 3]⟩
abbrev S64x1x3 : Shape := ⟨3, ![64, 1, 3]⟩
abbrev S64x1x192 : Shape := ⟨3, ![64, 1, 192]⟩
abbrev S64x1x8 : Shape := ⟨3, ![64, 1, 8]⟩
abbrev S64x3x128 : Shape := ⟨3, ![64, 3, 128]⟩
abbrev S1x3x256 : Shape := ⟨3, ![1, 3, 256]⟩
abbrev S3x256 : Shape := ⟨2, ![3, 256]⟩
abbrev S1x256x3 : Shape := ⟨3, ![1, 256, 3]⟩
abbrev S256x3 : Shape := ⟨2, ![256, 3]⟩
abbrev S256x64 : Shape := ⟨2, ![256, 64]⟩
abbrev S256x1 : Shape := ⟨2, ![256, 1]⟩
abbrev S1x256 : Shape := ⟨2, ![1, 256]⟩
abbrev S256x128 : Shape := ⟨2, ![256, 128]⟩
abbrev S3x128 : Shape := ⟨2, ![3, 128]⟩
abbrev S1x3x128 : Shape := ⟨3, ![1, 3, 128]⟩
abbrev S128x192 : Shape := ⟨2, ![128, 192]⟩
abbrev S1x1x192 : Shape := ⟨3, ![1, 1, 192]⟩
abbrev S1x192 : Shape := ⟨2, ![1, 192]⟩
abbrev S3x192 : Shape := ⟨2, ![3, 192]⟩
abbrev S64x64 : Shape := ⟨2, ![64, 64]⟩
abbrev S64x3 : Shape := ⟨2, ![64, 3]⟩
abbrev S64x8 : Shape := ⟨2, ![64, 8]⟩
abbrev S1024x1x1 : Shape := ⟨3, ![1024, 1, 1]⟩
abbrev S1024 : Shape := ⟨1, ![1024]⟩
abbrev S1024x128x3 : Shape := ⟨3, ![1024, 128, 3]⟩

abbrev nBuf : Space → Nat
  | .hbm => 40
  | .vmem => 17
  | .smem => 0
  | _ => 0

abbrev bufTy : (tb : Table) → Fin (tcTables nBuf tb) → BufTy
  | .hbm, ⟨0, _⟩ => ⟨S1024x3x256, .f32⟩
  | .hbm, ⟨1, _⟩ => ⟨S1024x3, .f32⟩
  | .hbm, ⟨2, _⟩ => ⟨S3x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1024x64x3, .i32⟩
  | .hbm, ⟨7, _⟩ => ⟨S1024x64x1, .i32⟩
  | .hbm, ⟨8, _⟩ => ⟨S1024x64, .i32⟩
  | .hbm, ⟨9, _⟩ => ⟨S1024x64x1, .i32⟩
  | .hbm, ⟨10, _⟩ => ⟨S1024x64, .i32⟩
  | .hbm, ⟨11, _⟩ => ⟨S1024x64x1, .i32⟩
  | .hbm, ⟨12, _⟩ => ⟨S1024x64, .i32⟩
  | .hbm, ⟨13, _⟩ => ⟨S1024x192, .i32⟩
  | .hbm, ⟨14, _⟩ => ⟨S1024x256x3, .f32⟩
  | .hbm, ⟨15, _⟩ => ⟨S_, .f32⟩
  | .hbm, ⟨16, _⟩ => ⟨S256x256, .f32⟩
  | .hbm, ⟨17, _⟩ => ⟨S256x256, .i32⟩
  | .hbm, ⟨18, _⟩ => ⟨S_, .i32⟩
  | .hbm, ⟨19, _⟩ => ⟨S256x256, .i32⟩
  | .hbm, ⟨20, _⟩ => ⟨S256x256, .i32⟩
  | .hbm, ⟨21, _⟩ => ⟨S256x256, .i32⟩
  | .hbm, ⟨22, _⟩ => ⟨S256x256, .i1⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S1024x1x3, .f32⟩
  | .hbm, ⟨27, _⟩ => ⟨S1x64, .f32⟩
  | .hbm, ⟨28, _⟩ => ⟨S1x1, .f32⟩
  | .hbm, ⟨29, _⟩ => ⟨S1024x1x192, .i32⟩
  | .hbm, ⟨30, _⟩ => ⟨S256x256, .bf16⟩
  | .hbm, ⟨31, _⟩ => ⟨S1024x1x8, .f32⟩
  | .hbm, ⟨32, _⟩ => ⟨S1024x3x128, .f32⟩
  | .hbm, ⟨33, _⟩ => ⟨S1024x1x1, .f32⟩
  | .hbm, ⟨34, _⟩ => ⟨S1024, .f32⟩
  | .hbm, ⟨35, _⟩ => ⟨S1024x1x1, .f32⟩
  | .hbm, ⟨36, _⟩ => ⟨S1024, .f32⟩
  | .hbm, ⟨37, _⟩ => ⟨S1024x1x3, .f32⟩
  | .hbm, ⟨38, _⟩ => ⟨S1024x3, .f32⟩
  | .hbm, ⟨39, _⟩ => ⟨S1024x128x3, .f32⟩
  | .local _ .vmem, ⟨0, _⟩ => ⟨S64x3x256, .f32⟩
  | .local _ .vmem, ⟨1, _⟩ => ⟨S64x3x256, .f32⟩
  | .local _ .vmem, ⟨2, _⟩ => ⟨S64x256x3, .f32⟩
  | .local _ .vmem, ⟨3, _⟩ => ⟨S64x256x3, .f32⟩
  | .local _ .vmem, ⟨4, _⟩ => ⟨S64x1x3, .f32⟩
  | .local _ .vmem, ⟨5, _⟩ => ⟨S64x1x3, .f32⟩
  | .local _ .vmem, ⟨6, _⟩ => ⟨S3x64, .f32⟩
  | .local _ .vmem, ⟨7, _⟩ => ⟨S1x64, .f32⟩
  | .local _ .vmem, ⟨8, _⟩ => ⟨S64x1, .f32⟩
  | .local _ .vmem, ⟨9, _⟩ => ⟨S1x1, .f32⟩
  | .local _ .vmem, ⟨10, _⟩ => ⟨S64x1x192, .i32⟩
  | .local _ .vmem, ⟨11, _⟩ => ⟨S64x1x192, .i32⟩
  | .local _ .vmem, ⟨12, _⟩ => ⟨S256x256, .bf16⟩
  | .local _ .vmem, ⟨13, _⟩ => ⟨S64x1x8, .f32⟩
  | .local _ .vmem, ⟨14, _⟩ => ⟨S64x1x8, .f32⟩
  | .local _ .vmem, ⟨15, _⟩ => ⟨S64x3x128, .f32⟩
  | .local _ .vmem, ⟨16, _⟩ => ⟨S64x3x128, .f32⟩
  | _, _ => ⟨S1024x3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_cst : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x1x192 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S64x1x8 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x3x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S1024x3x256 : Shape := ⟨3, ![1024, 3, 256]⟩
abbrev S1024x3 : Shape := ⟨2, ![1024, 3]⟩
abbrev S3x64 : Shape := ⟨2, ![3, 64]⟩
abbrev S64 : Shape := ⟨1, ![64]⟩
abbrev S64x1 : Shape := ⟨2, ![64, 1]⟩
abbrev S1 : Shape := ⟨1, ![1]⟩
abbrev S1024x64x3 : Shape := ⟨3, ![1024, 64, 3]⟩
abbrev S1024x256x3 : Shape := ⟨3, ![1024, 256, 3]⟩
abbrev S1024x256x64 : Shape := ⟨3, ![1024, 256, 64]⟩
abbrev S1x1x64 : Shape := ⟨3, ![1, 1, 64]⟩
abbrev S_ : Shape := ⟨0, ![]⟩
abbrev S1024x256x1 : Shape := ⟨3, ![1024, 256, 1]⟩
abbrev S1x1x1 : Shape := ⟨3, ![1, 1, 1]⟩
abbrev S1024x256 : Shape := ⟨2, ![1024, 256]⟩
abbrev S1024x128 : Shape := ⟨2, ![1024, 128]⟩
abbrev S1024x128x1 : Shape := ⟨3, ![1024, 128, 1]⟩
abbrev S1024x128x3 : Shape := ⟨3, ![1024, 128, 3]⟩
abbrev S1024x128x3x1 : Shape := ⟨4, ![1024, 128, 3, 1]⟩
abbrev S1x1x1x1 : Shape := ⟨4, ![1, 1, 1, 1]⟩
abbrev S1024x192 : Shape := ⟨2, ![1024, 192]⟩
abbrev S1024x192x1 : Shape := ⟨3, ![1024, 192, 1]⟩
abbrev S1024x192x3 : Shape := ⟨3, ![1024, 192, 3]⟩
abbrev S1024x192x3x1 : Shape := ⟨4, ![1024, 192, 3, 1]⟩
abbrev S1024x64x3x3 : Shape := ⟨4, ![1024, 64, 3, 3]⟩
abbrev S1024x64x1x3 : Shape := ⟨4, ![1024, 64, 1, 3]⟩
abbrev S1024x64x1 : Shape := ⟨3, ![1024, 64, 1]⟩
abbrev S1024x64 : Shape := ⟨2, ![1024, 64]⟩
abbrev S1x1024x64 : Shape := ⟨3, ![1, 1024, 64]⟩
abbrev S3x1024x64 : Shape := ⟨3, ![3, 1024, 64]⟩
abbrev S1024x64x4 : Shape := ⟨3, ![1024, 64, 4]⟩
abbrev S1024x64x256 : Shape := ⟨3, ![1024, 64, 256]⟩
abbrev S1024x1x3 : Shape := ⟨3, ![1024, 1, 3]⟩
abbrev S1024 : Shape := ⟨1, ![1024]⟩
abbrev S1024x1 : Shape := ⟨2, ![1024, 1]⟩
abbrev S1024x1x1 : Shape := ⟨3, ![1024, 1, 1]⟩
abbrev S1024x1x3x1 : Shape := ⟨4, ![1024, 1, 3, 1]⟩

abbrev nBuf : Space → Nat
  | .hbm => 247
  | .vmem => 0
  | .smem => 0
  | _ => 0

abbrev hbmTy0_0 (i : Nat) : BufTy := match i % 128 with
  | 0 => ⟨S1024x3x256, .f32⟩
  | 1 => ⟨S1024x3, .f32⟩
  | 2 => ⟨S3x64, .f32⟩
  | 3 => ⟨S64, .f32⟩
  | 4 => ⟨S64x1, .f32⟩
  | 5 => ⟨S1, .f32⟩
  | 6 => ⟨S1024x64x3, .i32⟩
  | 7 => ⟨S1024x256x3, .f32⟩
  | 8 => ⟨S1024x256x64, .f32⟩
  | 9 => ⟨S1x1x64, .f32⟩
  | 10 => ⟨S1024x256x64, .f32⟩
  | 11 => ⟨S1024x256x64, .f32⟩
  | 12 => ⟨S_, .f32⟩
  | 13 => ⟨S1024x256x64, .f32⟩
  | 14 => ⟨S1024x256x64, .f32⟩
  | 15 => ⟨S1024x256x1, .f32⟩
  | 16 => ⟨S1x1x1, .f32⟩
  | 17 => ⟨S1024x256x1, .f32⟩
  | 18 => ⟨S1024x256x1, .f32⟩
  | 19 => ⟨S1024x256, .f32⟩
  | 20 => ⟨S1024x128, .f32⟩
  | 21 => ⟨S1024x128, .i32⟩
  | 22 => ⟨S1024x128x1, .i32⟩
  | 23 => ⟨S1024x128x3, .i32⟩
  | 24 => ⟨S_, .i32⟩
  | 25 => ⟨S1024x128x3, .i32⟩
  | 26 => ⟨S1024x128x3, .i1⟩
  | 27 => ⟨S_, .i32⟩
  | 28 => ⟨S1024x128x3, .i32⟩
  | 29 => ⟨S1024x128x3, .i32⟩
  | 30 => ⟨S1024x128x3, .i32⟩
  | 31 => ⟨S1024x128x3x1, .i32⟩
  | 32 => ⟨S1, .i32⟩
  | 33 => ⟨S_, .i32⟩
  | 34 => ⟨S1024x128x3x1, .i32⟩
  | 35 => ⟨S1024x128x3x1, .i1⟩
  | 36 => ⟨S1x1x1x1, .i32⟩
  | 37 => ⟨S1024x128x3x1, .i32⟩
  | 38 => ⟨S1024x128x3x1, .i1⟩
  | 39 => ⟨S1024x128x3x1, .i1⟩
  | 40 => ⟨S_, .i1⟩
  | 41 => ⟨S1024x128x3, .i1⟩
  | 42 => ⟨S1024x128x3, .f32⟩
  | 43 => ⟨S_, .f32⟩
  | 44 => ⟨S1024x128x3, .f32⟩
  | 45 => ⟨S1024x128x3, .f32⟩
  | 46 => ⟨S1024x192, .i32⟩
  | 47 => ⟨S1024x192x1, .i32⟩
  | 48 => ⟨S1024x192x3, .i32⟩
  | 49 => ⟨S_, .i32⟩
  | 50 => ⟨S1024x192x3, .i32⟩
  | 51 => ⟨S1024x192x3, .i1⟩
  | 52 => ⟨S_, .i32⟩
  | 53 => ⟨S1024x192x3, .i32⟩
  | 54 => ⟨S1024x192x3, .i32⟩
  | 55 => ⟨S1024x192x3, .i32⟩
  | 56 => ⟨S1024x192x3x1, .i32⟩
  | 57 => ⟨S1, .i32⟩
  | 58 => ⟨S_, .i32⟩
  | 59 => ⟨S1024x192x3x1, .i32⟩
  | 60 => ⟨S1024x192x3x1, .i1⟩
  | 61 => ⟨S1x1x1x1, .i32⟩
  | 62 => ⟨S1024x192x3x1, .i32⟩
  | 63 => ⟨S1024x192x3x1, .i1⟩
  | 64 => ⟨S1024x192x3x1, .i1⟩
  | 65 => ⟨S_, .i1⟩
  | 66 => ⟨S1024x192x3, .i1⟩
  | 67 => ⟨S1024x192x3, .f32⟩
  | 68 => ⟨S_, .f32⟩
  | 69 => ⟨S1024x192x3, .f32⟩
  | 70 => ⟨S1024x192x3, .f32⟩
  | 71 => ⟨S1024x64x3x3, .f32⟩
  | 72 => ⟨S1024x64x1x3, .f32⟩
  | 73 => ⟨S1024x64x3, .f32⟩
  | 74 => ⟨S1024x64x1x3, .f32⟩
  | 75 => ⟨S1024x64x3, .f32⟩
  | 76 => ⟨S1024x64x1x3, .f32⟩
  | 77 => ⟨S1024x64x3, .f32⟩
  | 78 => ⟨S1024x64x3, .f32⟩
  | 79 => ⟨S1024x64x3, .f32⟩
  | 80 => ⟨S1024x64x1, .f32⟩
  | 81 => ⟨S1024x64, .f32⟩
  | 82 => ⟨S1024x64x1, .f32⟩
  | 83 => ⟨S1024x64, .f32⟩
  | 84 => ⟨S1024x64x1, .f32⟩
  | 85 => ⟨S1024x64, .f32⟩
  | 86 => ⟨S1024x64x1, .f32⟩
  | 87 => ⟨S1024x64, .f32⟩
  | 88 => ⟨S1024x64x1, .f32⟩
  | 89 => ⟨S1024x64, .f32⟩
  | 90 => ⟨S1024x64x1, .f32⟩
  | 91 => ⟨S1024x64, .f32⟩
  | 92 => ⟨S1024x64, .f32⟩
  | 93 => ⟨S1024x64, .f32⟩
  | 94 => ⟨S1024x64, .f32⟩
  | 95 => ⟨S1024x64, .f32⟩
  | 96 => ⟨S1024x64, .f32⟩
  | 97 => ⟨S1024x64, .f32⟩
  | 98 => ⟨S1024x64, .f32⟩
  | 99 => ⟨S1024x64, .f32⟩
  | 100 => ⟨S1024x64, .f32⟩
  | 101 => ⟨S1x1024x64, .f32⟩
  | 102 => ⟨S1x1024x64, .f32⟩
  | 103 => ⟨S1x1024x64, .f32⟩
  | 104 => ⟨S3x1024x64, .f32⟩
  | 105 => ⟨S1024x64x3, .f32⟩
  | 106 => ⟨S1024x64x3, .f32⟩
  | 107 => ⟨S_, .f32⟩
  | 108 => ⟨S1024x64, .f32⟩
  | 109 => ⟨S1024x64x1, .f32⟩
  | 110 => ⟨S1024x64x1, .f32⟩
  | 111 => ⟨S1024x64x4, .f32⟩
  | 112 => ⟨S_, .f32⟩
  | 113 => ⟨S1024x64x4, .f32⟩
  | 114 => ⟨S1024x64x4, .i1⟩
  | 115 => ⟨S1024x64x4, .i32⟩
  | 116 => ⟨S_, .i32⟩
  | 117 => ⟨S1024x64, .i32⟩
  | 118 => ⟨S_, .i32⟩
  | 119 => ⟨S1024x64, .i32⟩
  | 120 => ⟨S1024x64, .i32⟩
  | 121 => ⟨S_, .i32⟩
  | 122 => ⟨S1024x64, .i32⟩
  | 123 => ⟨S1024x64, .i1⟩
  | 124 => ⟨S1024x64x1, .i1⟩
  | 125 => ⟨S_, .f32⟩
  | 126 => ⟨S1024x64x4, .f32⟩
  | 127 => ⟨S1024x64x4, .i1⟩
  | _ => ⟨S1024x3x256, .f32⟩

abbrev hbmTy0_1 (i : Nat) : BufTy := match i % 128 with
  | 0 => ⟨S1024x64x4, .f32⟩
  | 1 => ⟨S1024x64x1, .f32⟩
  | 2 => ⟨S1024x64, .f32⟩
  | 3 => ⟨S1024x64, .f32⟩
  | 4 => ⟨S1024x64x1, .f32⟩
  | 5 => ⟨S1024x64, .f32⟩
  | 6 => ⟨S1024x64, .f32⟩
  | 7 => ⟨S1024x64, .f32⟩
  | 8 => ⟨S1024x64x1, .f32⟩
  | 9 => ⟨S1024x64, .f32⟩
  | 10 => ⟨S1024x64, .f32⟩
  | 11 => ⟨S1024x64, .f32⟩
  | 12 => ⟨S1024x64, .f32⟩
  | 13 => ⟨S1024x64x1, .f32⟩
  | 14 => ⟨S1024x64x4, .f32⟩
  | 15 => ⟨S1024x64x4, .f32⟩
  | 16 => ⟨S1024x64x3, .f32⟩
  | 17 => ⟨S1024x64x256, .f32⟩
  | 18 => ⟨S1024x64x1, .f32⟩
  | 19 => ⟨S1024x64x256, .f32⟩
  | 20 => ⟨S1024x64x256, .f32⟩
  | 21 => ⟨S1024x64x256, .f32⟩
  | 22 => ⟨S1024x64x256, .f32⟩
  | 23 => ⟨S1024x64x256, .f32⟩
  | 24 => ⟨S_, .f32⟩
  | 25 => ⟨S1024x64x256, .f32⟩
  | 26 => ⟨S1024x64x256, .f32⟩
  | 27 => ⟨S1024x64x256, .f32⟩
  | 28 => ⟨S_, .f32⟩
  | 29 => ⟨S1024x64, .f32⟩
  | 30 => ⟨S1024x1x3, .f32⟩
  | 31 => ⟨S1024x64x3, .f32⟩
  | 32 => ⟨S1024x64x3, .f32⟩
  | 33 => ⟨S1024x64x3, .f32⟩
  | 34 => ⟨S1024x64x3, .f32⟩
  | 35 => ⟨S_, .f32⟩
  | 36 => ⟨S1024x64, .f32⟩
  | 37 => ⟨S1024x64x3, .f32⟩
  | 38 => ⟨S1024x64x3, .f32⟩
  | 39 => ⟨S1024x64x3, .f32⟩
  | 40 => ⟨S1024x64x3, .f32⟩
  | 41 => ⟨S_, .f32⟩
  | 42 => ⟨S1024x64, .f32⟩
  | 43 => ⟨S1024x64, .f32⟩
  | 44 => ⟨S1024x64, .i32⟩
  | 45 => ⟨S_, .f32⟩
  | 46 => ⟨S_, .i32⟩
  | 47 => ⟨S1024, .f32⟩
  | 48 => ⟨S1024, .i32⟩
  | 49 => ⟨S1024x1, .i32⟩
  | 50 => ⟨S_, .i32⟩
  | 51 => ⟨S1024x1, .i32⟩
  | 52 => ⟨S1024x1, .i1⟩
  | 53 => ⟨S_, .i32⟩
  | 54 => ⟨S1024x1, .i32⟩
  | 55 => ⟨S1024x1, .i32⟩
  | 56 => ⟨S1024x1, .i32⟩
  | 57 => ⟨S1024x1x1, .i32⟩
  | 58 => ⟨S1, .i32⟩
  | 59 => ⟨S_, .i32⟩
  | 60 => ⟨S1024x1x1, .i32⟩
  | 61 => ⟨S1024x1x1, .i1⟩
  | 62 => ⟨S1x1x1, .i32⟩
  | 63 => ⟨S1024x1x1, .i32⟩
  | 64 => ⟨S1024x1x1, .i1⟩
  | 65 => ⟨S1024x1x1, .i1⟩
  | 66 => ⟨S_, .i1⟩
  | 67 => ⟨S1024x1, .i1⟩
  | 68 => ⟨S1024x1, .f32⟩
  | 69 => ⟨S_, .f32⟩
  | 70 => ⟨S1024x1, .f32⟩
  | 71 => ⟨S1024x1, .f32⟩
  | 72 => ⟨S1024, .f32⟩
  | 73 => ⟨S1024x64x3, .f32⟩
  | 74 => ⟨S1024x1x1, .i32⟩
  | 75 => ⟨S1024x1x3, .i32⟩
  | 76 => ⟨S_, .i32⟩
  | 77 => ⟨S1024x1x3, .i32⟩
  | 78 => ⟨S1024x1x3, .i1⟩
  | 79 => ⟨S_, .i32⟩
  | 80 => ⟨S1024x1x3, .i32⟩
  | 81 => ⟨S1024x1x3, .i32⟩
  | 82 => ⟨S1024x1x3, .i32⟩
  | 83 => ⟨S1024x1x3x1, .i32⟩
  | 84 => ⟨S1, .i32⟩
  | 85 => ⟨S_, .i32⟩
  | 86 => ⟨S1024x1x3x1, .i32⟩
  | 87 => ⟨S1024x1x3x1, .i1⟩
  | 88 => ⟨S1x1x1x1, .i32⟩
  | 89 => ⟨S1024x1x3x1, .i32⟩
  | 90 => ⟨S1024x1x3x1, .i1⟩
  | 91 => ⟨S1024x1x3x1, .i1⟩
  | 92 => ⟨S_, .i1⟩
  | 93 => ⟨S1024x1x3, .i1⟩
  | 94 => ⟨S1024x1x3, .f32⟩
  | 95 => ⟨S_, .f32⟩
  | 96 => ⟨S1024x1x3, .f32⟩
  | 97 => ⟨S1024x1x3, .f32⟩
  | 98 => ⟨S1024x3, .f32⟩
  | 99 => ⟨S_, .f32⟩
  | 100 => ⟨S1024x64, .f32⟩
  | 101 => ⟨S1024x64, .f32⟩
  | 102 => ⟨S_, .f32⟩
  | 103 => ⟨S1024, .f32⟩
  | 104 => ⟨S_, .f32⟩
  | 105 => ⟨S1024, .f32⟩
  | 106 => ⟨S1024, .f32⟩
  | 107 => ⟨S1024x1, .f32⟩
  | 108 => ⟨S1024x64, .f32⟩
  | 109 => ⟨S1024x64, .f32⟩
  | 110 => ⟨S1024x64, .f32⟩
  | 111 => ⟨S_, .f32⟩
  | 112 => ⟨S1024, .f32⟩
  | 113 => ⟨S1024x1, .f32⟩
  | 114 => ⟨S1024x64, .f32⟩
  | 115 => ⟨S1024x64, .f32⟩
  | 116 => ⟨S1024x64, .f32⟩
  | 117 => ⟨S_, .f32⟩
  | 118 => ⟨S1024, .f32⟩
  | _ => ⟨S1024x3x256, .f32⟩

abbrev hbmTy (i : Nat) : BufTy := match i / 128 with
  | 0 => hbmTy0_0 i
  | 1 => hbmTy0_1 i
  | _ => ⟨S1024x3x256, .f32⟩

abbrev bufTy : (tb : Table) → Fin (tcTables nBuf tb) → BufTy
  | .hbm, ⟨i, _⟩ => hbmTy i
  | _, _ => ⟨S1024x3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_values : Ref sig .tc := ⟨.hbm, 20, rfl⟩
abbrev main_indices : Ref sig .tc := ⟨.hbm, 21, rfl⟩
abbrev main_v11 : Ref sig .tc := ⟨.hbm, 22, rfl⟩
abbrev main_v12 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_cst : Ref sig .tc := ⟨.hbm, 43, rfl⟩
abbrev main_call1_v14 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_call2_c : Ref sig .tc := ⟨.hbm, 49, rfl⟩
abbrev main_call2_v0 : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_c_1 : Ref sig .tc := ⟨.hbm, 57, rfl⟩
abbrev main_call2_c_2 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_3 : Ref sig .tc := ⟨.hbm, 65, rfl⟩
abbrev main_call2_v12 : Ref sig .tc := ⟨.hbm, 66, rfl⟩
abbrev main_call2_v13 : Ref sig .tc := ⟨.hbm, 67, rfl⟩
abbrev main_call2_cst : Ref sig .tc := ⟨.hbm, 68, rfl⟩
abbrev main_call2_v14 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_call3_v15 : Ref sig .tc := ⟨.hbm, 95, rfl⟩
abbrev main_call3_v16 : Ref sig .tc := ⟨.hbm, 96, rfl⟩
abbrev main_call3_v17 : Ref sig .tc := ⟨.hbm, 97, rfl⟩
abbrev main_call3_v18 : Ref sig .tc := ⟨.hbm, 98, rfl⟩
abbrev main_call3_v19 : Ref sig .tc := ⟨.hbm, 99, rfl⟩
abbrev main_call3_v20 : Ref sig .tc := ⟨.hbm, 100, rfl⟩
abbrev main_call3_v21 : Ref sig .tc := ⟨.hbm, 101, rfl⟩
abbrev main_call3_v22 : Ref sig .tc := ⟨.hbm, 102, rfl⟩
abbrev main_call3_v23 : Ref sig .tc := ⟨.hbm, 103, rfl⟩
abbrev main_call3_v24 : Ref sig .tc := ⟨.hbm, 104, rfl⟩
abbrev main_v27 : Ref sig .tc := ⟨.hbm, 105, rfl⟩
abbrev main_v28 : Ref sig .tc := ⟨.hbm, 106, rfl⟩
abbrev main_cst : Ref sig .tc := ⟨.hbm, 107, rfl⟩
abbrev main_v29 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_cst_0 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_c : Ref sig .tc := ⟨.hbm, 116, rfl⟩
abbrev main_v36 : Ref sig .tc := ⟨.hbm, 117, rfl⟩
abbrev main_c_1 : Ref sig .tc := ⟨.hbm, 118, rfl⟩
abbrev main_v37 : Ref sig .tc := ⟨.hbm, 119, rfl⟩
abbrev main_v38 : Ref sig .tc := ⟨.hbm, 120, rfl⟩
abbrev main_c_2 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_cst_3 : Ref sig .tc := ⟨.hbm, 125, rfl⟩
abbrev main_v42 : Ref sig .tc := ⟨.hbm, 126, rfl⟩
abbrev main_call4_v0 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_v48 : Ref sig .tc := ⟨.hbm, 133, rfl⟩
abbrev main_v49 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_cst_4 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_cst_5 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_cst_6 : Ref sig .tc := ⟨.hbm, 163, rfl⟩
abbrev main_v76 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_cst_7 : Ref sig .tc := ⟨.hbm, 169, rfl⟩
abbrev main_v81 : Ref sig .tc := ⟨.hbm, 170, rfl⟩
abbrev main_v82 : Ref sig .tc := ⟨.hbm, 171, rfl⟩
abbrev main_call5_v0 : Ref sig .tc := ⟨.hbm, 172, rfl⟩
abbrev main_call5_cst : Ref sig .tc := ⟨.hbm, 173, rfl⟩
abbrev main_call5_c : Ref sig .tc := ⟨.hbm, 174, rfl⟩
abbrev main_call5_v1_0 : Ref sig .tc := ⟨.hbm, 175, rfl⟩
abbrev main_v83 : Ref sig .tc := ⟨.hbm, 176, rfl⟩
abbrev main_v84 : Ref sig .tc := ⟨.hbm, 177, rfl⟩
abbrev main_call6_c : Ref sig .tc := ⟨.hbm, 178, rfl⟩
abbrev main_call6_v0 : Ref sig .tc := ⟨.hbm, 179, rfl⟩
abbrev main_call6_v1 : Ref sig .tc := ⟨.hbm, 180, rfl⟩
abbrev main_call6_c_0 : Ref sig .tc := ⟨.hbm, 181, rfl⟩
abbrev main_call6_v2 : Ref sig .tc := ⟨.hbm, 182, rfl⟩
abbrev main_call6_v3 : Ref sig .tc := ⟨.hbm, 183, rfl⟩
abbrev main_call6_v4 : Ref sig .tc := ⟨.hbm, 184, rfl⟩
abbrev main_call6_v5 : Ref sig .tc := ⟨.hbm, 185, rfl⟩
abbrev main_call6_c_1 : Ref sig .tc := ⟨.hbm, 186, rfl⟩
abbrev main_call6_c_2 : Ref sig .tc := ⟨.hbm, 187, rfl⟩
abbrev main_call6_v6 : Ref sig .tc := ⟨.hbm, 188, rfl⟩
abbrev main_call6_v7 : Ref sig .tc := ⟨.hbm, 189, rfl⟩
abbrev main_call6_v8 : Ref sig .tc := ⟨.hbm, 190, rfl⟩
abbrev main_call6_v9 : Ref sig .tc := ⟨.hbm, 191, rfl⟩
abbrev main_call6_v10 : Ref sig .tc := ⟨.hbm, 192, rfl⟩
abbrev main_call6_v11 : Ref sig .tc := ⟨.hbm, 193, rfl⟩
abbrev main_call6_c_3 : Ref sig .tc := ⟨.hbm, 194, rfl⟩
abbrev main_call6_v12 : Ref sig .tc := ⟨.hbm, 195, rfl⟩
abbrev main_call6_v13 : Ref sig .tc := ⟨.hbm, 196, rfl⟩
abbrev main_call6_cst : Ref sig .tc := ⟨.hbm, 197, rfl⟩
abbrev main_call6_v14 : Ref sig .tc := ⟨.hbm, 198, rfl⟩
abbrev main_v85 : Ref sig .tc := ⟨.hbm, 199, rfl⟩
abbrev main_v86 : Ref sig .tc := ⟨.hbm, 200, rfl⟩
abbrev main_v87 : Ref sig .tc := ⟨.hbm, 201, rfl⟩
abbrev main_v88 : Ref sig .tc := ⟨.hbm, 202, rfl⟩
abbrev main_v89 : Ref sig .tc := ⟨.hbm, 203, rfl⟩
abbrev main_call7_c : Ref sig .tc := ⟨.hbm, 204, rfl⟩
abbrev main_call7_v0 : Ref sig .tc := ⟨.hbm, 205, rfl⟩
abbrev main_call7_v1 : Ref sig .tc := ⟨.hbm, 206, rfl⟩
abbrev main_call7_c_0 : Ref sig .tc := ⟨.hbm, 207, rfl⟩
abbrev main_call7_v2 : Ref sig .tc := ⟨.hbm, 208, rfl⟩
abbrev main_call7_v3 : Ref sig .tc := ⟨.hbm, 209, rfl⟩
abbrev main_call7_v4 : Ref sig .tc := ⟨.hbm, 210, rfl⟩
abbrev main_call7_v5 : Ref sig .tc := ⟨.hbm, 211, rfl⟩
abbrev main_call7_c_1 : Ref sig .tc := ⟨.hbm, 212, rfl⟩
abbrev main_call7_c_2 : Ref sig .tc := ⟨.hbm, 213, rfl⟩
abbrev main_call7_v6 : Ref sig .tc := ⟨.hbm, 214, rfl⟩
abbrev main_call7_v7 : Ref sig .tc := ⟨.hbm, 215, rfl⟩
abbrev main_call7_v8 : Ref sig .tc := ⟨.hbm, 216, rfl⟩
abbrev main_call7_v9 : Ref sig .tc := ⟨.hbm, 217, rfl⟩
abbrev main_call7_v10 : Ref sig .tc := ⟨.hbm, 218, rfl⟩
abbrev main_call7_v11 : Ref sig .tc := ⟨.hbm, 219, rfl⟩
abbrev main_call7_c_3 : Ref sig .tc := ⟨.hbm, 220, rfl⟩
abbrev main_call7_v12 : Ref sig .tc := ⟨.hbm, 221, rfl⟩
abbrev main_call7_v13 : Ref sig .tc := ⟨.hbm, 222, rfl⟩
abbrev main_call7_cst : Ref sig .tc := ⟨.hbm, 223, rfl⟩
abbrev main_call7_v14 : Ref sig .tc := ⟨.hbm, 224, rfl⟩
abbrev main_v90 : Ref sig .tc := ⟨.hbm, 225, rfl⟩
abbrev main_v91 : Ref sig .tc := ⟨.hbm, 226, rfl⟩
abbrev main_cst_8 : Ref sig .tc := ⟨.hbm, 227, rfl⟩
abbrev main_v92 : Ref sig .tc := ⟨.hbm, 228, rfl⟩
abbrev main_v93 : Ref sig .tc := ⟨.hbm, 229, rfl⟩
abbrev main_cst_9 : Ref sig .tc := ⟨.hbm, 230, rfl⟩
abbrev main_v94 : Ref sig .tc := ⟨.hbm, 231, rfl⟩
abbrev main_cst_10 : Ref sig .tc := ⟨.hbm, 232, rfl⟩
abbrev main_v95 : Ref sig .tc := ⟨.hbm, 233, rfl⟩
abbrev main_v96 : Ref sig .tc := ⟨.hbm, 234, rfl⟩
abbrev main_v97 : Ref sig .tc := ⟨.hbm, 235, rfl⟩
abbrev main_v98 : Ref sig .tc := ⟨.hbm, 236, rfl⟩
abbrev main_v99 : Ref sig .tc := ⟨.hbm, 237, rfl⟩
abbrev main_v100 : Ref sig .tc := ⟨.hbm, 238, rfl⟩
abbrev main_cst_11 : Ref sig .tc := ⟨.hbm, 239, rfl⟩
abbrev main_v101 : Ref sig .tc := ⟨.hbm, 240, rfl⟩
abbrev main_v102 : Ref sig .tc := ⟨.hbm, 241, rfl⟩
abbrev main_v103 : Ref sig .tc := ⟨.hbm, 242, rfl⟩
abbrev main_v104 : Ref sig .tc := ⟨.hbm, 243, rfl⟩
abbrev main_v105 : Ref sig .tc := ⟨.hbm, 244, rfl⟩
abbrev main_cst_12 : Ref sig .tc := ⟨.hbm, 245, rfl⟩
abbrev main_v106 : Ref sig .tc := ⟨.hbm, 246, rfl⟩

abbrev nD : Nat := 1
abbrev τ : Topo := Topo.v7x

variable {F : FTy → Type} [FloatOps F]
-- ==== Proof.RefStages.lean ====
/- The reference's run, cut into nineteen consecutive stretches. Each stretch's results are named here as functions of the
   contents it starts from (the operations of the printed program, in order); `RefRun` reads them off the run. -/
module

public import proofs.«01_k».proof.Proof.Gen.ReferenceIdeal
public import Idealize.ShloMosaic.Lib.Pipeline.ValueKit

@[expose] public section

noncomputable section

namespace Cert.Proof.Ref

open Idealize.ShloMosaic Cert.ReferenceIdeal
open Cert.ReferenceIdeal.Facts₀ Cert.ReferenceIdeal.Facts

def stWeights_v0 (arg0 : FVec Ideal S1024x3x256 .f32) : FVec Ideal S1024x256x3 .f32 :=
  ((transpose S1024x256x3 [0, 2, 1] · transposes_S1024x3x256_S1024x256x3_0_2_1)) arg0

def stWeights_v10 (arg0 : FVec Ideal S1024x3x256 .f32) (arg2 : FVec Ideal S3x64 .f32) (arg3 : FVec Ideal S64 .f32) (arg4 : FVec Ideal S64x1 .f32) (arg5 : FVec Ideal S1 .f32) : FVec Ideal S1024x256 .f32 :=
  let v0 : FVec Ideal S1024x256x3 .f32 := ((transpose S1024x256x3 [0, 2, 1] · transposes_S1024x3x256_S1024x256x3_0_2_1)) arg0
  let v1 : FVec Ideal S1024x256x64 .f32 := ((fun l r => Host.dotGeneral dot_S1024x256x3_S3x64_S1024x256x64_2_0_01_1_n_n none l r)) v0 arg2
  let v2 : FVec Ideal S1x1x64 .f32 := (broadcastInDim S1x1x64 ![2] bcast_S64_S1x1x64_2) arg3
  let v3 : FVec Ideal S1024x256x64 .f32 := (broadcastInDim S1024x256x64 ![0, 1, 2] bcast_S1x1x64_S1024x256x64_0_1_2) v2
  let v4 : FVec Ideal S1024x256x64 .f32 := (addf) v1 v3
  let k0_cst : FVec Ideal S_ .f32 := (constant S_ .f32 0x00000000#32)
  let k0_v0 : FVec Ideal S1024x256x64 .f32 := (broadcastInDim S1024x256x64 ![] bcast_S_S1024x256x64) k0_cst
  let v5 : FVec Ideal S1024x256x64 .f32 := maximumf v4 k0_v0
  let v6 : FVec Ideal S1024x256x1 .f32 := ((fun l r => Host.dotGeneral dot_S1024x256x64_S64x1_S1024x256x1_2_0_01_1_n_n none l r)) v5 arg4
  let v7 : FVec Ideal S1x1x1 .f32 := (broadcastInDim S1x1x1 ![2] bcast_S1_S1x1x1_2) arg5
  let v8 : FVec Ideal S1024x256x1 .f32 := (broadcastInDim S1024x256x1 ![0, 1, 2] bcast_S1x1x1_S1024x256x1_0_1_2) v7
  let v9 : FVec Ideal S1024x256x1 .f32 := (addf) v6 v8
  shapeCast S1024x256 v9 shapeCasts_S1024x256x1_S1024x256

def stRank (v10 : FVec Ideal S1024x256 .f32) : IVec S1024x128 32 :=
  ((fun x => (Host.topK S1024x128 1 (FloatOps.cmpfTotal .gt) x sliceFits_S1024x256_S1024x128).2)) v10

def stNames (indices : IVec S1024x128 32) : IVec S1024x128x3 32 :=
  let v11 : IVec S1024x128x1 32 := (broadcastInDim S1024x128x1 ![0, 1] bcast_S1024x128_S1024x128x1_0_1) indices
  (broadcastInDim S1024x128x3 ![0, 1, 2] bcast_S1024x128x1_S1024x128x3_0_1_2) v11

def stStarts (v12 : IVec S1024x128x3 32) : IVec S1024x128x3x1 32 :=
  let k1_c : IVec S_ 32 := (constantI S_ 32 0#32)
  let k1_v0 : IVec S1024x128x3 32 := (broadcastInDim S1024x128x3 ![] bcast_S_S1024x128x3) k1_c
  let k1_v1 : IVec S1024x128x3 1 := (cmpi .slt) v12 k1_v0
  let k1_c_0 : IVec S_ 32 := (constantI S_ 32 256#32)
  let k1_v2 : IVec S1024x128x3 32 := (broadcastInDim S1024x128x3 ![] bcast_S_S1024x128x3) k1_c_0
  let k1_v3 : IVec S1024x128x3 32 := addi v12 k1_v2
  let k1_v4 : IVec S1024x128x3 32 := select k1_v1 k1_v3 v12
  shapeCast S1024x128x3x1 k1_v4 shapeCasts_S1024x128x3_S1024x128x3x1

def stGather (k1_v5 : IVec S1024x128x3x1 32) (v0 : FVec Ideal S1024x256x3 .f32) : FVec Ideal S1024x128x3 .f32 :=
  let k1_c_1 : IVec S1 32 := (constantI S1 32 255#32)
  let k1_c_2 : IVec S_ 32 := (constantI S_ 32 0#32)
  let k1_v6 : IVec S1024x128x3x1 32 := (broadcastInDim S1024x128x3x1 ![] bcast_S_S1024x128x3x1) k1_c_2
  let k1_v7 : IVec S1024x128x3x1 1 := (cmpi .sge) k1_v5 k1_v6
  let k1_v8 : IVec S1x1x1x1 32 := (broadcastInDim S1x1x1x1 ![3] bcast_S1_S1x1x1x1_3) k1_c_1
  let k1_v9 : IVec S1024x128x3x1 32 := (broadcastInDim S1024x128x3x1 ![0, 1, 2, 3] bcast_S1x1x1x1_S1024x128x3x1_0_1_2_3) k1_v8
  let k1_v10 : IVec S1024x128x3x1 1 := (cmpi .sle) k1_v5 k1_v9
  let k1_v11 : IVec S1024x128x3x1 1 := andi k1_v7 k1_v10
  let k1_c_3 : IVec S_ 1 := (constantI S_ 1 1#1)
  let k1_v12 : IVec S1024x128x3 1 := (fun x v => Host.reduce IntOp.andi x v reducesTo_S1024x128x3x1_S1024x128x3_d3 h_S_) k1_v11 k1_c_3
  let k1_v13 : FVec Ideal S1024x128x3 .f32 := (fun x i => Host.gather gather_S1024x256x3_S1024x128x3x1_S1024x128x3_n_1_02_02_1_3_111 x i) v0 k1_v5
  let k1_cst : FVec Ideal S_ .f32 := (constant S_ .f32 0x7FC00000#32)
  let k1_v14 : FVec Ideal S1024x128x3 .f32 := (broadcastInDim S1024x128x3 ![] bcast_S_S1024x128x3) k1_cst
  select k1_v12 k1_v13 k1_v14

def stTripleNames (arg6 : IVec S1024x64x3 32) : IVec S1024x192x3 32 :=
  let v14 : IVec S1024x192 32 := shapeCast S1024x192 arg6 shapeCasts_S1024x64x3_S1024x192
  let v15 : IVec S1024x192x1 32 := (broadcastInDim S1024x192x1 ![0, 1] bcast_S1024x192_S1024x192x1_0_1) v14
  (broadcastInDim S1024x192x3 ![0, 1, 2] bcast_S1024x192x1_S1024x192x3_0_1_2) v15

def stTripleStarts (v16 : IVec S1024x192x3 32) : IVec S1024x192x3x1 32 :=
  let k2_c : IVec S_ 32 := (constantI S_ 32 0#32)
  let k2_v0 : IVec S1024x192x3 32 := (broadcastInDim S1024x192x3 ![] bcast_S_S1024x192x3) k2_c
  let k2_v1 : IVec S1024x192x3 1 := (cmpi .slt) v16 k2_v0
  let k2_c_0 : IVec S_ 32 := (constantI S_ 32 128#32)
  let k2_v2 : IVec S1024x192x3 32 := (broadcastInDim S1024x192x3 ![] bcast_S_S1024x192x3) k2_c_0
  let k2_v3 : IVec S1024x192x3 32 := addi v16 k2_v2
  let k2_v4 : IVec S1024x192x3 32 := select k2_v1 k2_v3 v16
  shapeCast S1024x192x3x1 k2_v4 shapeCasts_S1024x192x3_S1024x192x3x1

def stTriples (k2_v5 : IVec S1024x192x3x1 32) (v13 : FVec Ideal S1024x128x3 .f32) : FVec Ideal S1024x192x3 .f32 :=
  let k2_c_1 : IVec S1 32 := (constantI S1 32 127#32)
  let k2_c_2 : IVec S_ 32 := (constantI S_ 32 0#32)
  let k2_v6 : IVec S1024x192x3x1 32 := (broadcastInDim S1024x192x3x1 ![] bcast_S_S1024x192x3x1) k2_c_2
  let k2_v7 : IVec S1024x192x3x1 1 := (cmpi .sge) k2_v5 k2_v6
  let k2_v8 : IVec S1x1x1x1 32 := (broadcastInDim S1x1x1x1 ![3] bcast_S1_S1x1x1x1_3) k2_c_1
  let k2_v9 : IVec S1024x192x3x1 32 := (broadcastInDim S1024x192x3x1 ![0, 1, 2, 3] bcast_S1x1x1x1_S1024x192x3x1_0_1_2_3) k2_v8
  let k2_v10 : IVec S1024x192x3x1 1 := (cmpi .sle) k2_v5 k2_v9
  let k2_v11 : IVec S1024x192x3x1 1 := andi k2_v7 k2_v10
  let k2_c_3 : IVec S_ 1 := (constantI S_ 1 1#1)
  let k2_v12 : IVec S1024x192x3 1 := (fun x v => Host.reduce IntOp.andi x v reducesTo_S1024x192x3x1_S1024x192x3_d3 h_S_) k2_v11 k2_c_3
  let k2_v13 : FVec Ideal S1024x192x3 .f32 := (fun x i => Host.gather gather_S1024x128x3_S1024x192x3x1_S1024x192x3_n_1_02_02_1_3_111 x i) v13 k2_v5
  let k2_cst : FVec Ideal S_ .f32 := (constant S_ .f32 0x7FC00000#32)
  let k2_v14 : FVec Ideal S1024x192x3 .f32 := (broadcastInDim S1024x192x3 ![] bcast_S_S1024x192x3) k2_cst
  select k2_v12 k2_v13 k2_v14

def stCorners (v17 : FVec Ideal S1024x192x3 .f32) : FVec Ideal S1024x64x3x3 .f32 :=
  shapeCast S1024x64x3x3 v17 shapeCasts_S1024x192x3_S1024x64x3x3

def stCross_v20 (v18 : FVec Ideal S1024x64x3x3 .f32) : FVec Ideal S1024x64x3 .f32 :=
  let v19 : FVec Ideal S1024x64x1x3 .f32 := ((extractStridedSlice S1024x64x1x3 ![0, 0, 0, 0] · slices_S1024x64x3x3_S1024x64x1x3_0_0_0_0)) v18
  shapeCast S1024x64x3 v19 shapeCasts_S1024x64x1x3_S1024x64x3

def stCross_v27 (v18 : FVec Ideal S1024x64x3x3 .f32) : FVec Ideal S1024x64x3 .f32 :=
  let v19 : FVec Ideal S1024x64x1x3 .f32 := ((extractStridedSlice S1024x64x1x3 ![0, 0, 0, 0] · slices_S1024x64x3x3_S1024x64x1x3_0_0_0_0)) v18
  let v20 : FVec Ideal S1024x64x3 .f32 := shapeCast S1024x64x3 v19 shapeCasts_S1024x64x1x3_S1024x64x3
  let v21 : FVec Ideal S1024x64x1x3 .f32 := ((extractStridedSlice S1024x64x1x3 ![0, 0, 1, 0] · slices_S1024x64x3x3_S1024x64x1x3_0_0_1_0)) v18
  let v22 : FVec Ideal S1024x64x3 .f32 := shapeCast S1024x64x3 v21 shapeCasts_S1024x64x1x3_S1024x64x3
  let v23 : FVec Ideal S1024x64x1x3 .f32 := ((extractStridedSlice S1024x64x1x3 ![0, 0, 2, 0] · slices_S1024x64x3x3_S1024x64x1x3_0_0_2_0)) v18
  let v24 : FVec Ideal S1024x64x3 .f32 := shapeCast S1024x64x3 v23 shapeCasts_S1024x64x1x3_S1024x64x3
  let v25 : FVec Ideal S1024x64x3 .f32 := (subf) v22 v20
  let v26 : FVec Ideal S1024x64x3 .f32 := (subf) v24 v20
  let k3_v0 : FVec Ideal S1024x64x1 .f32 := (extractStridedSlice S1024x64x1 ![0, 0, 0] · slices_S1024x64x3_S1024x64x1_0_0_0) v25
  let k3_v1 : FVec Ideal S1024x64 .f32 := shapeCast S1024x64 k3_v0 shapeCasts_S1024x64x1_S1024x64
  let k3_v2 : FVec Ideal S1024x64x1 .f32 := (extractStridedSlice S1024x64x1 ![0, 0, 1] · slices_S1024x64x3_S1024x64x1_0_0_1) v25
  let k3_v3 : FVec Ideal S1024x64 .f32 := shapeCast S1024x64 k3_v2 shapeCasts_S1024x64x1_S1024x64
  let k3_v4 : FVec Ideal S1024x64x1 .f32 := (extractStridedSlice S1024x64x1 ![0, 0, 2] · slices_S1024x64x3_S1024x64x1_0_0_2) v25
  let k3_v5 : FVec Ideal S1024x64 .f32 := shapeCast S1024x64 k3_v4 shapeCasts_S1024x64x1_S1024x64
  let k3_v6 : FVec Ideal S1024x64x1 .f32 := (extractStridedSlice S1024x64x1 ![0, 0, 0] · slices_S1024x64x3_S1024x64x1_0_0_0) v26
  let k3_v7 : FVec Ideal S1024x64 .f32 := shapeCast S1024x64 k3_v6 shapeCasts_S1024x64x1_S1024x64
  let k3_v8 : FVec Ideal S1024x64x1 .f32 := (extractStridedSlice S1024x64x1 ![0, 0, 1] · slices_S1024x64x3_S1024x64x1_0_0_1) v26
  let k3_v9 : FVec Ideal S1024x64 .f32 := shapeCast S1024x64 k3_v8 shapeCasts_S1024x64x1_S1024x64
  let k3_v10 : FVec Ideal S1024x64x1 .f32 := (extractStridedSlice S1024x64x1 ![0, 0, 2] · slices_S1024x64x3_S1024x64x1_0_0_2) v26
  let k3_v11 : FVec Ideal S1024x64 .f32 := shapeCast S1024x64 k3_v10 shapeCasts_S1024x64x1_S1024x64
  let k3_v12 : FVec Ideal S1024x64 .f32 := mulf k3_v3 k3_v11
  let k3_v13 : FVec Ideal S1024x64 .f32 := mulf k3_v5 k3_v9
  let k3_v14 : FVec Ideal S1024x64 .f32 := subf k3_v12 k3_v13
  let k3_v15 : FVec Ideal S1024x64 .f32 := mulf k3_v5 k3_v7
  let k3_v16 : FVec Ideal S1024x64 .f32 := mulf k3_v1 k3_v11
  let k3_v17 : FVec Ideal S1024x64 .f32 := subf k3_v15 k3_v16
  let k3_v18 : FVec Ideal S1024x64 .f32 := mulf k3_v1 k3_v9
  let k3_v19 : FVec Ideal S1024x64 .f32 := mulf k3_v3 k3_v7
  let k3_v20 : FVec Ideal S1024x64 .f32 := subf k3_v18 k3_v19
  let k3_v21 : FVec Ideal S1x1024x64 .f32 := (broadcastInDim S1x1024x64 ![1, 2] bcast_S1024x64_S1x1024x64_1_2) k3_v14
  let k3_v22 : FVec Ideal S1x1024x64 .f32 := (broadcastInDim S1x1024x64 ![1, 2] bcast_S1024x64_S1x1024x64_1_2) k3_v17
  let k3_v23 : FVec Ideal S1x1024x64 .f32 := (broadcastInDim S1x1024x64 ![1, 2] bcast_S1024x64_S1x1024x64_1_2) k3_v20
  let k3_v24 : FVec Ideal S3x1024x64 .f32 := concatenate S3x1024x64 0 [⟨S1x1024x64, k3_v21⟩, ⟨S1x1024x64, k3_v22⟩, ⟨S1x1024x64, k3_v23⟩] concatenates_S1x1024x64_S1x1024x64_S1x1024x64_S3x1024x64_d0
  (transpose S1024x64x3 [1, 2, 0] · transposes_S3x1024x64_S1024x64x3_1_2_0) k3_v24

def stPlane (v27 : FVec Ideal S1024x64x3 .f32) (v20 : FVec Ideal S1024x64x3 .f32) : FVec Ideal S1024x64x4 .f32 :=
  let v28 : FVec Ideal S1024x64x3 .f32 := (mulf) v27 v20
  let cst : FVec Ideal S_ .f32 := (constant S_ .f32 0x00000000#32)
  let v29 : FVec Ideal S1024x64 .f32 := ((fun x v => Host.reduceAdd x v reducesTo_S1024x64x3_S1024x64_d2 h_S_)) v28 cst
  let v30 : FVec Ideal S1024x64x1 .f32 := (broadcastInDim S1024x64x1 ![0, 1] bcast_S1024x64_S1024x64x1_0_1) v29
  let v31 : FVec Ideal S1024x64x1 .f32 := (Host.negf) v30
  ((fun a b => concatenate S1024x64x4 2 [⟨S1024x64x3, a⟩, ⟨S1024x64x1, b⟩] concatenates_S1024x64x3_S1024x64x1_S1024x64x4_d2)) v27 v31

def stFixed (v32 : FVec Ideal S1024x64x4 .f32) : FVec Ideal S1024x64x4 .f32 :=
  let cst_0 : FVec Ideal S_ .f32 := (constant S_ .f32 0x00000000#32)
  let v33 : FVec Ideal S1024x64x4 .f32 := (broadcastInDim S1024x64x4 ![] bcast_S_S1024x64x4) cst_0
  let v34 : IVec S1024x64x4 1 := (cmpf .oeq) v32 v33
  let v35 : IVec S1024x64x4 32 := ((extui 32 · natLt_1_32)) v34
  let c : IVec S_ 32 := (constantI S_ 32 0#32)
  let v36 : IVec S1024x64 32 := ((fun x v => Host.reduce IntOp.addi x v reducesTo_S1024x64x4_S1024x64_d2 h_S_)) v35 c
  let c_1 : IVec S_ 32 := (constantI S_ 32 4#32)
  let v37 : IVec S1024x64 32 := (broadcastInDim S1024x64 ![] bcast_S_S1024x64) c_1
  let v38 : IVec S1024x64 32 := (subi) v37 v36
  let c_2 : IVec S_ 32 := (constantI S_ 32 0#32)
  let v39 : IVec S1024x64 32 := (broadcastInDim S1024x64 ![] bcast_S_S1024x64) c_2
  let v40 : IVec S1024x64 1 := (cmpi .eq) v38 v39
  let v41 : IVec S1024x64x1 1 := (broadcastInDim S1024x64x1 ![0, 1] bcast_S1024x64_S1024x64x1_0_1) v40
  let cst_3 : FVec Ideal S_ .f32 := (constant S_ .f32 0x3F800000#32)
  let v42 : FVec Ideal S1024x64x4 .f32 := (broadcastInDim S1024x64x4 ![] bcast_S_S1024x64x4) cst_3
  let k4_v0 : IVec S1024x64x4 1 := (broadcastInDim S1024x64x4 ![0, 1, 2] bcast_S1024x64x1_S1024x64x4_0_1_2) v41
  select k4_v0 v42 v32

def stUnit (v43 : FVec Ideal S1024x64x4 .f32) : FVec Ideal S1024x64x4 .f32 :=
  let v44 : FVec Ideal S1024x64x1 .f32 := ((extractStridedSlice S1024x64x1 ![0, 0, 0] · slices_S1024x64x4_S1024x64x1_0_0_0)) v43
  let v45 : FVec Ideal S1024x64 .f32 := shapeCast S1024x64 v44 shapeCasts_S1024x64x1_S1024x64
  let v46 : FVec Ideal S1024x64 .f32 := (mulf) v45 v45
  let v47 : FVec Ideal S1024x64x1 .f32 := ((extractStridedSlice S1024x64x1 ![0, 0, 1] · slices_S1024x64x4_S1024x64x1_0_0_1)) v43
  let v48 : FVec Ideal S1024x64 .f32 := shapeCast S1024x64 v47 shapeCasts_S1024x64x1_S1024x64
  let v49 : FVec Ideal S1024x64 .f32 := (mulf) v48 v48
  let v50 : FVec Ideal S1024x64 .f32 := (addf) v46 v49
  let v51 : FVec Ideal S1024x64x1 .f32 := ((extractStridedSlice S1024x64x1 ![0, 0, 2] · slices_S1024x64x4_S1024x64x1_0_0_2)) v43
  let v52 : FVec Ideal S1024x64 .f32 := shapeCast S1024x64 v51 shapeCasts_S1024x64x1_S1024x64
  let v53 : FVec Ideal S1024x64 .f32 := (mulf) v52 v52
  let v54 : FVec Ideal S1024x64 .f32 := (addf) v50 v53
  let v55 : FVec Ideal S1024x64 .f32 := (Host.sqrt) v54
  let v56 : FVec Ideal S1024x64x1 .f32 := (broadcastInDim S1024x64x1 ![0, 1] bcast_S1024x64_S1024x64x1_0_1) v55
  let v57 : FVec Ideal S1024x64x4 .f32 := (broadcastInDim S1024x64x4 ![0, 1, 2] bcast_S1024x64x1_S1024x64x4_0_1_2) v56
  (Host.divf) v43 v57

def stScore (v58 : FVec Ideal S1024x64x4 .f32) (v0 : FVec Ideal S1024x256x3 .f32) : FVec Ideal S1024x64 .f32 :=
  let v59 : FVec Ideal S1024x64x3 .f32 := ((extractStridedSlice S1024x64x3 ![0, 0, 0] · slices_S1024x64x4_S1024x64x3_0_0_0)) v58
  let v60 : FVec Ideal S1024x64x256 .f32 := ((fun l r => Host.dotGeneral dot_S1024x64x3_S1024x256x3_S1024x64x256_2_2_1_1_0_0 none l r)) v59 v0
  let v61 : FVec Ideal S1024x64x1 .f32 := ((extractStridedSlice S1024x64x1 ![0, 0, 3] · slices_S1024x64x4_S1024x64x1_0_0_3)) v58
  let v62 : FVec Ideal S1024x64x256 .f32 := (broadcastInDim S1024x64x256 ![0, 1, 2] bcast_S1024x64x1_S1024x64x256_0_1_2) v61
  let v63 : FVec Ideal S1024x64x256 .f32 := (addf) v60 v62
  let v64 : FVec Ideal S1024x64x256 .f32 := (Host.absf) v63
  let v65 : FVec Ideal S1024x64x256 .f32 := (mulf) v64 v64
  let v66 : FVec Ideal S1024x64x256 .f32 := (Host.negf) v65
  let cst_4 : FVec Ideal S_ .f32 := (constant S_ .f32 0x3CA3D70A#32)
  let v67 : FVec Ideal S1024x64x256 .f32 := (broadcastInDim S1024x64x256 ![] bcast_S_S1024x64x256) cst_4
  let v68 : FVec Ideal S1024x64x256 .f32 := (Host.divf) v66 v67
  let v69 : FVec Ideal S1024x64x256 .f32 := (Host.exp) v68
  let cst_5 : FVec Ideal S_ .f32 := (constant S_ .f32 0x00000000#32)
  ((fun x v => Host.reduceAdd x v reducesTo_S1024x64x256_S1024x64_d2 h_S_)) v69 cst_5

def stLoss (v58 : FVec Ideal S1024x64x4 .f32) (arg1 : FVec Ideal S1024x3 .f32) : FVec Ideal S1024x64 .f32 :=
  let v71 : FVec Ideal S1024x1x3 .f32 := shapeCast S1024x1x3 arg1 shapeCasts_S1024x3_S1024x1x3
  let v72 : FVec Ideal S1024x64x3 .f32 := ((extractStridedSlice S1024x64x3 ![0, 0, 0] · slices_S1024x64x4_S1024x64x3_0_0_0)) v58
  let v73 : FVec Ideal S1024x64x3 .f32 := (broadcastInDim S1024x64x3 ![0, 1, 2] bcast_S1024x1x3_S1024x64x3_0_1_2) v71
  let v74 : FVec Ideal S1024x64x3 .f32 := (subf) v72 v73
  let v75 : FVec Ideal S1024x64x3 .f32 := (mulf) v74 v74
  let cst_6 : FVec Ideal S_ .f32 := (constant S_ .f32 0x00000000#32)
  let v76 : FVec Ideal S1024x64 .f32 := ((fun x v => Host.reduceAdd x v reducesTo_S1024x64x3_S1024x64_d2 h_S_)) v75 cst_6
  let v77 : FVec Ideal S1024x64x3 .f32 := ((extractStridedSlice S1024x64x3 ![0, 0, 0] · slices_S1024x64x4_S1024x64x3_0_0_0)) v58
  let v78 : FVec Ideal S1024x64x3 .f32 := (broadcastInDim S1024x64x3 ![0, 1, 2] bcast_S1024x1x3_S1024x64x3_0_1_2) v71
  let v79 : FVec Ideal S1024x64x3 .f32 := (addf) v77 v78
  let v80 : FVec Ideal S1024x64x3 .f32 := (mulf) v79 v79
  let cst_7 : FVec Ideal S_ .f32 := (constant S_ .f32 0x00000000#32)
  let v81 : FVec Ideal S1024x64 .f32 := ((fun x v => Host.reduceAdd x v reducesTo_S1024x64x3_S1024x64_d2 h_S_)) v80 cst_7
  (minimumf) v76 v81

def stBest (v70 : FVec Ideal S1024x64 .f32) : IVec S1024 32 :=
  let k5_v0 : IVec S1024x64 32 := (iotaInDim S1024x64 32 1)
  let k5_cst : FVec Ideal S_ .f32 := (constant S_ .f32 0xFF800000#32)
  let k5_c : IVec S_ 32 := (constantI S_ 32 0#32)
  (fun x y u v j => (Host.argReduce reducer_argmax_f32_i32 x y u v reducesTo_S1024x64_S1024_d1 h_S_ j).2) v70 k5_v0 k5_cst k5_c

def stTop (v83 : IVec S1024 32) (v82 : FVec Ideal S1024x64 .f32) : FVec Ideal S1024 .f32 :=
  let v84 : IVec S1024x1 32 := (broadcastInDim S1024x1 ![0] bcast_S1024_S1024x1_0) v83
  let k6_c : IVec S_ 32 := (constantI S_ 32 0#32)
  let k6_v0 : IVec S1024x1 32 := (broadcastInDim S1024x1 ![] bcast_S_S1024x1) k6_c
  let k6_v1 : IVec S1024x1 1 := (cmpi .slt) v84 k6_v0
  let k6_c_0 : IVec S_ 32 := (constantI S_ 32 64#32)
  let k6_v2 : IVec S1024x1 32 := (broadcastInDim S1024x1 ![] bcast_S_S1024x1) k6_c_0
  let k6_v3 : IVec S1024x1 32 := addi v84 k6_v2
  let k6_v4 : IVec S1024x1 32 := select k6_v1 k6_v3 v84
  let k6_v5 : IVec S1024x1x1 32 := shapeCast S1024x1x1 k6_v4 shapeCasts_S1024x1_S1024x1x1
  let k6_c_1 : IVec S1 32 := (constantI S1 32 63#32)
  let k6_c_2 : IVec S_ 32 := (constantI S_ 32 0#32)
  let k6_v6 : IVec S1024x1x1 32 := (broadcastInDim S1024x1x1 ![] bcast_S_S1024x1x1) k6_c_2
  let k6_v7 : IVec S1024x1x1 1 := (cmpi .sge) k6_v5 k6_v6
  let k6_v8 : IVec S1x1x1 32 := (broadcastInDim S1x1x1 ![2] bcast_S1_S1x1x1_2) k6_c_1
  let k6_v9 : IVec S1024x1x1 32 := (broadcastInDim S1024x1x1 ![0, 1, 2] bcast_S1x1x1_S1024x1x1_0_1_2) k6_v8
  let k6_v10 : IVec S1024x1x1 1 := (cmpi .sle) k6_v5 k6_v9
  let k6_v11 : IVec S1024x1x1 1 := andi k6_v7 k6_v10
  let k6_c_3 : IVec S_ 1 := (constantI S_ 1 1#1)
  let k6_v12 : IVec S1024x1 1 := (fun x v => Host.reduce IntOp.andi x v reducesTo_S1024x1x1_S1024x1_d2 h_S_) k6_v11 k6_c_3
  let k6_v13 : FVec Ideal S1024x1 .f32 := (fun x i => Host.gather gather_S1024x64_S1024x1x1_S1024x1_n_1_0_0_1_2_11 x i) v82 k6_v5
  let k6_cst : FVec Ideal S_ .f32 := (constant S_ .f32 0x7FC00000#32)
  let k6_v14 : FVec Ideal S1024x1 .f32 := (broadcastInDim S1024x1 ![] bcast_S_S1024x1) k6_cst
  let v85 : FVec Ideal S1024x1 .f32 := select k6_v12 k6_v13 k6_v14
  shapeCast S1024 v85 shapeCasts_S1024x1_S1024

def stPick (v83 : IVec S1024 32) (v58 : FVec Ideal S1024x64x4 .f32) : FVec Ideal S1024x3 .f32 :=
  let v87 : FVec Ideal S1024x64x3 .f32 := ((extractStridedSlice S1024x64x3 ![0, 0, 0] · slices_S1024x64x4_S1024x64x3_0_0_0)) v58
  let v88 : IVec S1024x1x1 32 := (broadcastInDim S1024x1x1 ![0] bcast_S1024_S1024x1x1_0) v83
  let v89 : IVec S1024x1x3 32 := (broadcastInDim S1024x1x3 ![0, 1, 2] bcast_S1024x1x1_S1024x1x3_0_1_2) v88
  let k7_c : IVec S_ 32 := (constantI S_ 32 0#32)
  let k7_v0 : IVec S1024x1x3 32 := (broadcastInDim S1024x1x3 ![] bcast_S_S1024x1x3) k7_c
  let k7_v1 : IVec S1024x1x3 1 := (cmpi .slt) v89 k7_v0
  let k7_c_0 : IVec S_ 32 := (constantI S_ 32 64#32)
  let k7_v2 : IVec S1024x1x3 32 := (broadcastInDim S1024x1x3 ![] bcast_S_S1024x1x3) k7_c_0
  let k7_v3 : IVec S1024x1x3 32 := addi v89 k7_v2
  let k7_v4 : IVec S1024x1x3 32 := select k7_v1 k7_v3 v89
  let k7_v5 : IVec S1024x1x3x1 32 := shapeCast S1024x1x3x1 k7_v4 shapeCasts_S1024x1x3_S1024x1x3x1
  let k7_c_1 : IVec S1 32 := (constantI S1 32 63#32)
  let k7_c_2 : IVec S_ 32 := (constantI S_ 32 0#32)
  let k7_v6 : IVec S1024x1x3x1 32 := (broadcastInDim S1024x1x3x1 ![] bcast_S_S1024x1x3x1) k7_c_2
  let k7_v7 : IVec S1024x1x3x1 1 := (cmpi .sge) k7_v5 k7_v6
  let k7_v8 : IVec S1x1x1x1 32 := (broadcastInDim S1x1x1x1 ![3] bcast_S1_S1x1x1x1_3) k7_c_1
  let k7_v9 : IVec S1024x1x3x1 32 := (broadcastInDim S1024x1x3x1 ![0, 1, 2, 3] bcast_S1x1x1x1_S1024x1x3x1_0_1_2_3) k7_v8
  let k7_v10 : IVec S1024x1x3x1 1 := (cmpi .sle) k7_v5 k7_v9
  let k7_v11 : IVec S1024x1x3x1 1 := andi k7_v7 k7_v10
  let k7_c_3 : IVec S_ 1 := (constantI S_ 1 1#1)
  let k7_v12 : IVec S1024x1x3 1 := (fun x v => Host.reduce IntOp.andi x v reducesTo_S1024x1x3x1_S1024x1x3_d3 h_S_) k7_v11 k7_c_3
  let k7_v13 : FVec Ideal S1024x1x3 .f32 := (fun x i => Host.gather gather_S1024x64x3_S1024x1x3x1_S1024x1x3_n_1_02_02_1_3_111 x i) v87 k7_v5
  let k7_cst : FVec Ideal S_ .f32 := (constant S_ .f32 0x7FC00000#32)
  let k7_v14 : FVec Ideal S1024x1x3 .f32 := (broadcastInDim S1024x1x3 ![] bcast_S_S1024x1x3) k7_cst
  let v90 : FVec Ideal S1024x1x3 .f32 := select k7_v12 k7_v13 k7_v14
  shapeCast S1024x3 v90 shapeCasts_S1024x1x3_S1024x3

def stExp (v82 : FVec Ideal S1024x64 .f32) (v70 : FVec Ideal S1024x64 .f32) : FVec Ideal S1024 .f32 :=
  let cst_8 : FVec Ideal S_ .f32 := (constant S_ .f32 0x3F000000#32)
  let v92 : FVec Ideal S1024x64 .f32 := (broadcastInDim S1024x64 ![] bcast_S_S1024x64) cst_8
  let v93 : FVec Ideal S1024x64 .f32 := (mulf) v92 v70
  let cst_9 : FVec Ideal S_ .f32 := (constant S_ .f32 0xFF800000#32)
  let v94 : FVec Ideal S1024 .f32 := ((fun x v => Host.reduce FloatOps.maximumf x v reducesTo_S1024x64_S1024_d1 h_S_)) v93 cst_9
  let cst_10 : FVec Ideal S_ .f32 := (constant S_ .f32 0xFF800000#32)
  let v95 : FVec Ideal S1024 .f32 := (broadcastInDim S1024 ![] bcast_S_S1024) cst_10
  let v96 : FVec Ideal S1024 .f32 := (maximumf) v95 v94
  let v97 : FVec Ideal S1024x1 .f32 := (broadcastInDim S1024x1 ![0] bcast_S1024_S1024x1_0) v96
  let v98 : FVec Ideal S1024x64 .f32 := (broadcastInDim S1024x64 ![0, 1] bcast_S1024x1_S1024x64_0_1) v97
  let v99 : FVec Ideal S1024x64 .f32 := (subf) v93 v98
  let v100 : FVec Ideal S1024x64 .f32 := (Host.exp) v99
  let cst_11 : FVec Ideal S_ .f32 := (constant S_ .f32 0x00000000#32)
  let v101 : FVec Ideal S1024 .f32 := ((fun x v => Host.reduceAdd x v reducesTo_S1024x64_S1024_d1 h_S_)) v100 cst_11
  let v102 : FVec Ideal S1024x1 .f32 := (broadcastInDim S1024x1 ![0] bcast_S1024_S1024x1_0) v101
  let v103 : FVec Ideal S1024x64 .f32 := (broadcastInDim S1024x64 ![0, 1] bcast_S1024x1_S1024x64_0_1) v102
  let v104 : FVec Ideal S1024x64 .f32 := (Host.divf) v100 v103
  let v105 : FVec Ideal S1024x64 .f32 := (mulf) v82 v104
  let cst_12 : FVec Ideal S_ .f32 := (constant S_ .f32 0x00000000#32)
  ((fun x v => Host.reduceAdd x v reducesTo_S1024x64_S1024_d1 h_S_)) v105 cst_12

end Cert.Proof.Ref

end
-- ==== Proof.Spec.lean ====
/- What one batch row's computation is, written once over extended reals: the weight of a point, its rank among the row's
   weights, the guided points in rank order, a plane through three of them, its score, its loss and the best plane. Both
   programs are shown to leave these values. -/
module

public import Idealize.ShloMosaic.Lib.Pipeline.ValueKit

@[expose] public section

noncomputable section

open scoped BigOperators

namespace Cert.Proof.Spec

open Idealize.ShloMosaic

/-- The weight the two-layer perceptron gives point `n`. -/
def weight (x : Fin 256 → Fin 3 → EReal) (W1 : Fin 3 → Fin 64 → EReal) (b1 W2 : Fin 64 → EReal) (b2 : EReal)
    (n : Fin 256) : EReal :=
  (∑ k : Fin 64, max ((∑ c : Fin 3, x n c * W1 c k) + b1 k) 0 * W2 k) + b2

/-- Point `j` stands before point `i`: a greater weight, or the same weight and an earlier position. -/
def Before {n : ℕ} (p : Fin n → EReal) (j i : Fin n) : Prop := p i < p j ∨ (p j = p i ∧ j < i)

instance {n : ℕ} (p : Fin n → EReal) (j i : Fin n) : Decidable (Before p j i) := inferInstanceAs (Decidable (_ ∨ _))

/-- How many points stand before `i`. -/
def rank {n : ℕ} (p : Fin n → EReal) (i : Fin n) : ℕ := (Finset.univ.filter fun j => Before p j i).card

/-- The guided point of rank `r`, as the sum over the points that keeps the one of that rank. -/
def guide (x : Fin 256 → Fin 3 → EReal) (p : Fin 256 → EReal) (r : Fin 128) (c : Fin 3) : EReal :=
  ∑ n : Fin 256, x n c * if rank p n = (r : ℕ) then 1 else 0

/-- The guided point a sampled number names, as the sum over the guided points that keeps the named one. -/
def named (g : Fin 128 → Fin 3 → EReal) (s : BitVec 32) (c : Fin 3) : EReal :=
  ∑ r : Fin 128, g r c * if s = BitVec.ofNat 32 r then 1 else 0

/-- The plane through three points: its normal `(P₁ - P₀) × (P₂ - P₀)` and minus the normal's product with `P₀`. -/
def plane (P : Fin 3 → Fin 3 → EReal) : Fin 4 → EReal :=
  let nx := (P 1 1 - P 0 1) * (P 2 2 - P 0 2) - (P 1 2 - P 0 2) * (P 2 1 - P 0 1)
  let ny := (P 1 2 - P 0 2) * (P 2 0 - P 0 0) - (P 1 0 - P 0 0) * (P 2 2 - P 0 2)
  let nz := (P 1 0 - P 0 0) * (P 2 1 - P 0 1) - (P 1 1 - P 0 1) * (P 2 0 - P 0 0)
  ![nx, ny, nz, -(nx * P 0 0 + ny * P 0 1 + nz * P 0 2)]

/-- The plane, or all ones where it is zero throughout. -/
def fixed (q : Fin 4 → EReal) (c : Fin 4) : EReal := if q 0 = 0 ∧ q 1 = 0 ∧ q 2 = 0 ∧ q 3 = 0 then 1 else q c

/-- The plane divided by its normal's length. -/
def unit (q : Fin 4 → EReal) (c : Fin 4) : EReal :=
  Ideal.div (q c) (Ideal.sqrt (q 0 * q 0 + q 1 * q 1 + q 2 * q 2))

/-- The hypothesis three points give. -/
def hyp (P : Fin 3 → Fin 3 → EReal) : Fin 4 → EReal := unit (fixed (plane P))

/-- The signed distance of a point to a plane of unit normal. -/
def dist (x : Fin 3 → EReal) (q : Fin 4 → EReal) : EReal := (x 0 * q 0 + x 1 * q 1 + x 2 * q 2) + q 3

/-- The soft count of the points near a plane. -/
def score (x : Fin 256 → Fin 3 → EReal) (q : Fin 4 → EReal) : EReal :=
  ∑ n : Fin 256, Ideal.exp (Ideal.div (-(dist (x n) q * dist (x n) q)) (Ideal.ofBits .f32 0x3CA3D70A#32))

/-- The squared distance of a normal to the target, either way round. -/
def loss (q : Fin 4 → EReal) (t : Fin 3 → EReal) : EReal :=
  min ((q 0 - t 0) * (q 0 - t 0) + (q 1 - t 1) * (q 1 - t 1) + (q 2 - t 2) * (q 2 - t 2))
    ((q 0 + t 0) * (q 0 + t 0) + (q 1 + t 1) * (q 1 + t 1) + (q 2 + t 2) * (q 2 + t 2))

/-- `h` is the earliest of the greatest scores. -/
def IsBest (s : Fin 64 → EReal) (h : Fin 64) : Prop := (∀ k, s k ≤ s h) ∧ ∀ k < h, s k < s h

/-- The loss expected when a plane is drawn with the softmax of half its score. -/
def expected (l s : Fin 64 → EReal) : EReal :=
  ∑ h, l h * Ideal.div
    (Ideal.exp (Ideal.ofBits .f32 0x3F000000#32 * s h -
      Finset.fold max (Ideal.ofBits .f32 0xFF800000#32) (fun k => Ideal.ofBits .f32 0x3F000000#32 * s k) Finset.univ))
    (∑ h, Ideal.exp (Ideal.ofBits .f32 0x3F000000#32 * s h -
      Finset.fold max (Ideal.ofBits .f32 0xFF800000#32) (fun k => Ideal.ofBits .f32 0x3F000000#32 * s k) Finset.univ))

theorem isBest_unique {s : Fin 64 → EReal} {h h' : Fin 64} (a : IsBest s h) (b : IsBest s h') : h = h' := by
  rcases lt_trichotomy h h' with e | e | e
  · exact absurd (b.2 h e) (not_lt.mpr (a.1 h'))
  · exact e
  · exact absurd (a.2 h' e) (not_lt.mpr (b.1 h))

/-- Some score is the earliest of the greatest. -/
theorem exists_best (s : Fin 64 → EReal) : ∃ h, IsBest s h := by
  obtain ⟨m, -, hm⟩ := Finset.exists_max_image Finset.univ s ⟨0, Finset.mem_univ _⟩
  have hne : (Finset.univ.filter fun k => s k = s m).Nonempty := ⟨m, by simp⟩
  refine ⟨(Finset.univ.filter fun k => s k = s m).min' hne, ?_, ?_⟩
  · have h := (Finset.mem_filter.mp (Finset.min'_mem _ hne)).2
    intro k
    rw [h]
    exact hm k (Finset.mem_univ _)
  · have h := (Finset.mem_filter.mp (Finset.min'_mem _ hne)).2
    intro k hk
    rw [h]
    refine lt_of_le_of_ne (hm k (Finset.mem_univ _)) fun e => ?_
    exact absurd (Finset.min'_le _ k (by simp [e])) (not_le.mpr hk)

/-- The position of the best score. -/
def best (s : Fin 64 → EReal) : Fin 64 := Classical.choose (exists_best s)

theorem best_spec (s : Fin 64 → EReal) : IsBest s (best s) := Classical.choose_spec (exists_best s)

theorem best_eq {s : Fin 64 → EReal} {h : Fin 64} (a : IsBest s h) : best s = h := isBest_unique (best_spec s) a

/-! ### Sums that keep one term -/

/-- Of a sum of products with a mark, the marked term is left. -/
theorem sum_mark {n : ℕ} (f : Fin n → EReal) (P : Fin n → Prop) [DecidablePred P] (k : Fin n) (hP : ∀ i, P i ↔ i = k) :
    ∑ i, f i * (if P i then (1 : EReal) else 0) = f k := by
  rw [Finset.sum_eq_single k]
  · rw [if_pos ((hP k).mpr rfl), mul_one]
  · intro b _ hb
    rw [if_neg fun h => hb ((hP b).mp h), mul_zero]
  · intro h
    exact absurd (Finset.mem_univ _) h

/-- The word of a small natural number, read signed, is the number. -/
theorem sitofp_ofNat (r : ℕ) (h : r < 2 ^ 31) : (FloatOps.sitofp .f32 (BitVec.ofNat 32 r) : Ideal .f32) = ((r : ℝ) : EReal) := by
  have e : (BitVec.ofNat 32 r).toInt = (r : ℤ) := by
    rw [BitVec.toInt_eq_toNat_of_lt (by rw [BitVec.toNat_ofNat]; omega), BitVec.toNat_ofNat]
    omega
  show ((((BitVec.ofNat 32 r).toInt : ℤ) : ℝ) : EReal) = _
  rw [e]
  norm_cast

theorem ofBits_64 : Ideal.ofBits .f32 0x42800000#32 = ((64 : ℝ) : EReal) := by
  simp [Ideal.ofBits, Ideal.ieee]
  rw [← EReal.coe_mul]
  norm_num

theorem ofBits_top : Ideal.ofBits .f32 0x7F800000#32 = (⊤ : EReal) := by
  simp [Ideal.ofBits, Ideal.ieee]

theorem ofBits_bot : Ideal.ofBits .f32 0xFF800000#32 = (⊥ : EReal) := by
  simp [Ideal.ofBits, Ideal.ieee]

/-- Counting by a sum of ones. -/
theorem sum_count (p : Fin 256 → EReal) (i : Fin 256) (T : Fin 256 → EReal)
    (hT : ∀ j, T j = if j < i then 1 else 0) :
    (∑ j, if p i < p j then (1 : EReal) else if p j = p i then T j else 0) = ((rank p i : ℝ) : EReal) := by
  have e : ∀ j, (if p i < p j then (1 : EReal) else if p j = p i then T j else 0) = if Before p j i then 1 else 0 := by
    intro j
    unfold Before
    rw [hT]
    by_cases a : p i < p j
    · simp [a]
    · by_cases b : p j = p i
      · by_cases c : j < i <;> simp [a, b, c]
      · simp [a, b]
  rw [Finset.sum_congr rfl fun j _ => e j, Finset.sum_ite, Finset.sum_const, Finset.sum_const_zero, add_zero, nsmul_one]
  rfl

theorem real_eq_iff (a b : ℕ) : (((a : ℝ) : EReal) = ((b : ℝ) : EReal)) ↔ a = b := by
  rw [EReal.coe_eq_coe_iff]
  exact_mod_cast Iff.rfl

/-- The least number among the greatest scores' positions (64 elsewhere) is the best position. -/
theorem fold_min_best (s : Fin 64 → EReal) :
    Finset.fold min (Ideal.ofBits .f32 0x7F800000#32)
      (fun k : Fin 64 => if s k = Finset.fold max (Ideal.ofBits .f32 0xFF800000#32) s Finset.univ then (((k : ℕ) : ℝ) : EReal)
        else Ideal.ofBits .f32 0x42800000#32) Finset.univ = (((best s : ℕ) : ℝ) : EReal) := by
  obtain ⟨h1, h2⟩ := best_spec s
  have hm : Finset.fold max (Ideal.ofBits .f32 0xFF800000#32) s Finset.univ = s (best s) := by
    refine le_antisymm ?_ ?_
    · rw [Finset.fold_max_le, ofBits_bot]
      exact ⟨bot_le, fun k _ => h1 k⟩
    · rw [Finset.le_fold_max]
      exact Or.inr ⟨best s, Finset.mem_univ _, le_refl _⟩
  rw [hm, ofBits_64, ofBits_top]
  refine le_antisymm ?_ ?_
  · rw [Finset.fold_min_le]
    exact Or.inr ⟨best s, Finset.mem_univ _, by rw [if_pos rfl]⟩
  · rw [Finset.le_fold_min]
    refine ⟨le_top, fun k _ => ?_⟩
    by_cases e : s k = s (best s)
    · rw [if_pos e, EReal.coe_le_coe_iff]
      have : best s ≤ k := by
        by_contra hk
        exact absurd (h2 k (not_le.mp hk)) (by rw [e]; exact lt_irrefl _)
      exact_mod_cast this
    · rw [if_neg e, EReal.coe_le_coe_iff]
      exact_mod_cast (best s).isLt.le

/-- The sum marked at that least number keeps the best position's term. -/
theorem sum_best (s f : Fin 64 → EReal) :
    (∑ x : Fin 64, f x * if (((x : ℕ) : ℝ) : EReal) =
      Finset.fold min (Ideal.ofBits .f32 0x7F800000#32)
        (fun k : Fin 64 => if s k = Finset.fold max (Ideal.ofBits .f32 0xFF800000#32) s Finset.univ then (((k : ℕ) : ℝ) : EReal)
          else Ideal.ofBits .f32 0x42800000#32) Finset.univ then 1 else 0) = f (best s) := by
  rw [fold_min_best]
  exact sum_mark f (fun x : Fin 64 => (((x : ℕ) : ℝ) : EReal) = (((best s : ℕ) : ℝ) : EReal)) (best s)
    fun i => by rw [real_eq_iff, Fin.ext_iff]

/-- The named guided point. -/
theorem named_eq (g : Fin 128 → Fin 3 → EReal) (s : BitVec 32) (c : Fin 3) (r : Fin 128) (h : s = BitVec.ofNat 32 r) :
    named g s c = g r c := by
  unfold named
  refine sum_mark (fun r => g r c) (fun r : Fin 128 => s = BitVec.ofNat 32 r) r fun i => ?_
  subst h
  constructor
  · intro e
    have := congrArg BitVec.toNat e
    simp only [BitVec.toNat_ofNat] at this
    exact Fin.ext (by omega)
  · rintro rfl
    rfl

end Cert.Proof.Spec

end
-- ==== Proof.RefPoint.lean ====
/- The reference's stages read at one index: each is the row's value. -/
module

public import proofs.«01_k».proof.Proof.RefStages
public import proofs.«01_k».proof.Proof.Spec

@[expose] public section

set_option maxRecDepth 16384

noncomputable section

open scoped BigOperators

namespace Cert.Proof.Ref

open Idealize.ShloMosaic Cert.ReferenceIdeal Idealize.ShloMosaic.TcCoe
open Idealize.ShloMosaic.Pipeline (Dat)

theorem weights_at (a0 : FVec Ideal S1024x3x256 .f32) (a2 : FVec Ideal S3x64 .f32)
    (a3 : FVec Ideal S64 .f32) (a4 : FVec Ideal S64x1 .f32) (a5 : FVec Ideal S1 .f32) (b : Fin 1024) (n : Fin 256) :
    stWeights_v10 a0 a2 a3 a4 a5 (ix2 b n)
      = Spec.weight (fun n c => a0 (ix3 b c n)) (fun c k => a2 (ix2 c k)) (fun k => a3 (ix1 k)) (fun k => a4 (ix2 k 0)) (a5 (ix1 0)) n := by
  pointwise [stWeights_v10, Spec.weight]

theorem points_at (a0 : FVec Ideal S1024x3x256 .f32) (b : Fin 1024) (n : Fin 256) (c : Fin 3) :
    stWeights_v0 a0 (ix3 b n c) = a0 (ix3 b c n) := by
  pointwise [stWeights_v0]

/-- The plane's normal. -/
theorem plane_at (v18 : FVec Ideal S1024x64x3x3 .f32) (b : Fin 1024) (n : Fin 64) (c : Fin 4) :
    stPlane (stCross_v27 v18) (stCross_v20 v18) (ix3 b n c) = Spec.plane (fun j c => v18 (ix4 b n j c)) c := by
  match c with
  | 0 => pointwise [stPlane, stCross_v27, stCross_v20, Spec.plane]
  | 1 => pointwise [stPlane, stCross_v27, stCross_v20, Spec.plane]
  | 2 => pointwise [stPlane, stCross_v27, stCross_v20, Spec.plane]
  | 3 =>
    pointwise [stPlane, stCross_v27, stCross_v20, Spec.plane]
    rw [Fin.sum_univ_three]
    rfl

/-- A fold over four. -/
theorem fold_four (f : Fin 4 → BitVec 32) :
    Finset.fold IntOp.addi 0#32 f Finset.univ = f 0 + (f 1 + (f 2 + (f 3 + 0#32))) := rfl

theorem fixed_at (q : FVec Ideal S1024x64x4 .f32) (b : Fin 1024) (n : Fin 64) (c : Fin 4) :
    stFixed q (ix3 b n c) = Spec.fixed (fun c => q (ix3 b n c)) c := by
  pointwise [stFixed, Spec.fixed]
  rw [fold_four]
  by_cases h0 : q (ix3 b n 0) = 0 <;> by_cases h1 : q (ix3 b n 1) = 0 <;> by_cases h2 : q (ix3 b n 2) = 0 <;>
    by_cases h3 : q (ix3 b n 3) = 0
  all_goals
    simp only [h0, h1, h2, h3, decide_true, decide_false, and_true, and_false, true_and, false_and, if_true, if_false]
    rfl

theorem unit_at (q : FVec Ideal S1024x64x4 .f32) (b : Fin 1024) (n : Fin 64) (c : Fin 4) :
    stUnit q (ix3 b n c) = Spec.unit (fun c => q (ix3 b n c)) c := by
  pointwise [stUnit, Spec.unit]

/-- The square of an absolute value. -/
theorem abs_mul_abs (d : EReal) : max d (-d) * max d (-d) = d * d := by
  rcases max_choice d (-d) with h | h <;> rw [h]
  exact neg_mul_neg d d

theorem score_at (q : FVec Ideal S1024x64x4 .f32) (x : FVec Ideal S1024x256x3 .f32) (b : Fin 1024) (n : Fin 64) :
    stScore q x (ix2 b n) = Spec.score (fun n c => x (ix3 b n c)) (fun c => q (ix3 b n c)) := by
  pointwise [stScore, Spec.score, Spec.dist]
  refine Finset.sum_congr rfl fun k _ => congrArg (fun e => Ideal.exp (Ideal.div (-e) _)) ?_
  refine (abs_mul_abs _).trans ?_
  rw [Fin.sum_univ_three]
  show (q (ix3 b n 0) * x (ix3 b k 0) + q (ix3 b n 1) * x (ix3 b k 1) + q (ix3 b n 2) * x (ix3 b k 2) + q (ix3 b n 3)) *
      (q (ix3 b n 0) * x (ix3 b k 0) + q (ix3 b n 1) * x (ix3 b k 1) + q (ix3 b n 2) * x (ix3 b k 2) + q (ix3 b n 3)) = _
  rw [mul_comm (q (ix3 b n 0)), mul_comm (q (ix3 b n 1)), mul_comm (q (ix3 b n 2))]

theorem loss_at (q : FVec Ideal S1024x64x4 .f32) (t : FVec Ideal S1024x3 .f32) (b : Fin 1024) (n : Fin 64) :
    stLoss q t (ix2 b n) = Spec.loss (fun c => q (ix3 b n c)) (fun c => t (ix2 b c)) := by
  pointwise [stLoss, Spec.loss]
  rw [Fin.sum_univ_three, Fin.sum_univ_three]
  rfl

theorem exp_at (l s : FVec Ideal S1024x64 .f32) (b : Fin 1024) :
    stExp l s (ix1 b) = Spec.expected (fun h => l (ix2 b h)) (fun h => s (ix2 b h)) := by
  pointwise [stExp, Spec.expected]
  rw [max_eq_right (by rw [Spec.ofBits_bot]; exact bot_le)]

theorem corners_at (v : FVec Ideal S1024x192x3 .f32) (b : Fin 1024) (n : Fin 64) (j c : Fin 3) :
    stCorners v (ix4 b n j c) = v (ix3 b ⟨n * 3 + j, by omega⟩ c) := by
  pointwise [stCorners]

theorem names_at (v : IVec S1024x128 32) (b : Fin 1024) (r : Fin 128) (c : Fin 3) :
    stStarts (stNames v) (ix4 b r c 0)
      = Scalar.select (IntOp.cmpi .slt (v (ix2 b r)) 0#32) (IntOp.addi (v (ix2 b r)) 256#32) (v (ix2 b r)) := by
  pointwise [stStarts, stNames]

theorem tripleNames_at (v : IVec S1024x64x3 32) (b : Fin 1024) (n : Fin 64) (j c : Fin 3) :
    stTripleStarts (stTripleNames v) (ix4 b ⟨n * 3 + j, by omega⟩ c 0)
      = Scalar.select (IntOp.cmpi .slt (v (ix3 b n j)) 0#32) (IntOp.addi (v (ix3 b n j)) 128#32) (v (ix3 b n j)) := by
  pointwise [stTripleStarts, stTripleNames]

end Cert.Proof.Ref

end
-- ==== Proof.Order.lean ====
/- The stable sort by weight, greatest first, puts every point at its rank. -/
module

public import proofs.«01_k».proof.Proof.Spec
public import Idealize.ShloMosaic.Lib.SortFacts
public import Idealize.ShloMosaic.Lib.SortPrefix

@[expose] public section

noncomputable section

namespace Cert.Proof.Spec

open Idealize.ShloMosaic

/-- A stable sort of a list in position order, by a relation `R`, is the sort by `R` refined by position. -/
theorem stableSort_refine {n : ℕ} (R B : Fin n → Fin n → Bool) (hRB : ∀ a b, a < b → R b a = B b a) :
    ∀ l : List (Fin n), l.Pairwise (· < ·) → stableSort R l = stableSort B l := by
  intro l
  induction l with
  | nil => intro _; rfl
  | cons a l ih =>
    intro h
    rw [List.pairwise_cons] at h
    unfold stableSort
    rw [ih h.2]
    refine insertBefore_congr R B a _ fun b hb => hRB a b (h.1 b ?_)
    exact (perm_stableSort B l).mem_iff.mp hb

/-- The strict order of the points by weight and then position. -/
def ordered {n : ℕ} (p : Fin n → EReal) : Fin n → Fin n → Bool := fun k k' =>
  decide (p k' < p k) || (decide (p k = p k') && decide (k < k'))

theorem ordered_iff {n : ℕ} (p : Fin n → EReal) (j i : Fin n) : ordered p j i = true ↔ Before p j i := by
  unfold ordered Before
  simp only [Bool.or_eq_true, Bool.and_eq_true, decide_eq_true_eq]

theorem ordered_total {n : ℕ} (p : Fin n → EReal) : StrictTotalBefore (ordered p) := by
  unfold ordered
  exact StrictTotalBefore.of_key_then_position (fun a b : EReal => decide (b < a)) p (by simp)
    (by
      intro a b c h1 h2
      simp only [decide_eq_true_eq] at h1 h2 ⊢
      exact lt_trans h2 h1)
    (by
      intro a b
      simp only [decide_eq_true_eq]
      rcases lt_trichotomy a b with h | h | h
      · exact Or.inr (Or.inr h)
      · exact Or.inr (Or.inl h)
      · exact Or.inl h)

/-- The sort by weight alone, stable, is the sort by weight and position. -/
theorem sortedFrom_weight {n : ℕ} (p : Fin n → EReal) (R : Fin n → Fin n → Bool)
    (hR : ∀ a b, R a b = decide (p b < p a)) : sortedFrom R = sortedFrom (ordered p) := by
  have e : sortPositions n R = sortPositions n (ordered p) := by
    refine stableSort_refine R (ordered p) (fun a b hab => ?_) _ (List.pairwise_lt_finRange n)
    rw [hR]
    unfold ordered
    have : ¬ b < a := not_lt.mpr hab.le
    simp [this]
  funext k
  unfold sortedFrom
  rw [List.get_of_eq e]
  rfl

/-- The point sorted to position `r` has rank `r`. -/
theorem rank_sorted {n : ℕ} (p : Fin n → EReal) (r : Fin n) : rank p (sortedFrom (ordered p) r) = (r : ℕ) := by
  have hB := ordered_total p
  have hno := fun i j h => sortedFrom_noInversion (ordered p) (ordered p) (fun a b h => hB.asymm a b h) (fun _ _ h => h)
    hB.negTrans i j h
  have hinj := sortedFrom_injective (ordered p)
  have hiff : ∀ i, Before p (sortedFrom (ordered p) i) (sortedFrom (ordered p) r) ↔ i < r := by
    intro i
    rw [← ordered_iff]
    constructor
    · intro h
      rcases lt_trichotomy i r with e | e | e
      · exact e
      · subst e; rw [hB.irrefl] at h; exact absurd h (by decide)
      · rw [hno r i e] at h; exact absurd h (by decide)
    · intro h
      rcases hB.total (sortedFrom (ordered p) i) (sortedFrom (ordered p) r) (fun e => h.ne (hinj e)) with e | e
      · exact e
      · rw [hno i r h] at e; exact absurd e (by decide)
  unfold rank
  have himg : (Finset.univ.filter fun j => Before p j (sortedFrom (ordered p) r))
      = (Finset.univ.filter fun i : Fin n => i < r).image (sortedFrom (ordered p)) := by
    ext j
    simp only [Finset.mem_filter, Finset.mem_univ, true_and, Finset.mem_image]
    constructor
    · intro h
      obtain ⟨i, rfl⟩ := sortedFrom_surjective (ordered p) j
      exact ⟨i, (hiff i).mp h, rfl⟩
    · rintro ⟨i, hi, rfl⟩
      exact (hiff i).mpr hi
  rw [himg, Finset.card_image_of_injective _ hinj]
  have : (Finset.univ.filter fun i : Fin n => i < r) = Finset.Iio r := by
    ext i; simp
  rw [this, Fin.card_Iio]

/-- Only that point has that rank. -/
theorem rank_eq_iff {n : ℕ} (p : Fin n → EReal) (r : Fin n) (i : Fin n) :
    rank p i = (r : ℕ) ↔ i = sortedFrom (ordered p) r := by
  constructor
  · intro h
    obtain ⟨k, rfl⟩ := sortedFrom_surjective (ordered p) i
    rw [rank_sorted] at h
    rw [Fin.ext h]
  · rintro rfl
    exact rank_sorted p r

/-- The guided point of rank `r` is the point sorted to position `r`. -/
theorem guide_eq (x : Fin 256 → Fin 3 → EReal) (p : Fin 256 → EReal) (r : Fin 128) (c : Fin 3) :
    guide x p r c = x (sortedFrom (ordered p) (r.castLE (by decide))) c := by
  unfold guide
  refine sum_mark (fun n => x n c) (fun n => rank p n = (r : ℕ)) _ fun i => ?_
  have h := rank_eq_iff p (r.castLE (by decide)) i
  rwa [Fin.val_castLE] at h

end Cert.Proof.Spec

end
-- ==== Proof.RefGather.lean ====
/- Taking along the middle axis, and the reference's takes read at one index. -/
module

public import proofs.«01_k».proof.Proof.RefPoint
public import proofs.«01_k».proof.Proof.Order

@[expose] public section

set_option maxRecDepth 16384

noncomputable section

open scoped BigOperators

namespace Cert.Proof.Ref

open Idealize.ShloMosaic Idealize.ShloMosaic.TcCoe
open Idealize.ShloMosaic.Pipeline (Dat)

/-! ### A take along the middle axis of a rank-3 array, one number per element -/

/-- The take's dimensions. -/
def midDims (B N M C : ℕ)
    (wf : GatherDims.WF ⟨3, ![B, N, C]⟩ ⟨4, ![B, M, C, 1]⟩ ⟨3, ![B, M, C]⟩ [] [1] [0, 2] [1] [0, 2] 3 ![1, 1, 1]) :
    GatherDims ⟨3, ![B, N, C]⟩ ⟨4, ![B, M, C, 1]⟩ ⟨3, ![B, M, C]⟩ where
  offsetDims := []
  collapsedSliceDims := [1]
  operandBatchingDims := [0, 2]
  startIndicesBatchingDims := [0, 2]
  startIndexMap := [1]
  indexVectorDim := 3
  sliceSizes := ![1, 1, 1]
  wf := wf

theorem take_mid {α : Type} {B N M C : ℕ}
    (wf : GatherDims.WF ⟨3, ![B, N, C]⟩ ⟨4, ![B, M, C, 1]⟩ ⟨3, ![B, M, C]⟩ [] [1] [0, 2] [1] [0, 2] 3 ![1, 1, 1])
    (x : (⟨3, ![B, N, C]⟩ : Shape).Idx → α) (st : IVec ⟨4, ![B, M, C, 1]⟩ 32) (b : Fin B) (m : Fin M) (c : Fin C) (k : Fin N)
    (h : (st (ix4 b m c 0)).toInt.toNat = k) :
    Host.gather (midDims B N M C wf) x st (ix3 b m c) = x (ix3 b k c) := by
  unfold Host.gather
  congr 1
  funext a
  refine Fin.ext ?_
  show (midDims B N M C wf).start (ix3 b m c) st a + (midDims B N M C wf).batchCoord (ix3 b m c) a
      + (midDims B N M C wf).offCoord (ix3 b m c) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  have hb0 : (0 : Fin 3) ∈ (midDims B N M C wf).operandBatchingDims := by simp [midDims]
  have hb2 : (2 : Fin 3) ∈ (midDims B N M C wf).operandBatchingDims := by simp [midDims]
  have hb1 : (1 : Fin 3) ∉ (midDims B N M C wf).operandBatchingDims := by simp [midDims]
  have hm : (1 : Fin 3) ∈ (midDims B N M C wf).startIndexMap := List.mem_singleton.mpr rfl
  rcases ha with rfl | rfl | rfl
  · rw [GatherDims.start_batching _ _ _ _ hb0,
      GatherDims.offCoord_eq_zero _ _ _ (fun h => ((GatherDims.mem_sKept _ _).mp h).2 hb0)]
    simp only [Nat.zero_add, Nat.add_zero]
    unfold GatherDims.batchCoord
    rw [dif_pos hb0]
    rfl
  · rw [GatherDims.batchCoord_eq_zero _ _ _ hb1,
      GatherDims.offCoord_eq_zero _ _ _ (fun h => ((GatherDims.mem_sKept _ _).mp h).1 (List.mem_singleton.mpr rfl))]
    simp only [Nat.add_zero]
    unfold GatherDims.start
    rw [dif_pos hm]
    have hsi : (midDims B N M C wf).siIdx (ix3 b m c) ⟨List.idxOf (1 : Fin 3) (midDims B N M C wf).startIndexMap,
        List.idxOf_lt_length_iff.2 hm⟩ = ix4 b m c 0 := by
      funext e; refine Fin.ext ?_
      match e with
      | ⟨0, _⟩ => rfl
      | ⟨1, _⟩ => rfl
      | ⟨2, _⟩ => rfl
      | ⟨3, _⟩ => rfl
    rw [hsi, h]
    show min (k : ℕ) (N - 1) = k
    omega
  · rw [GatherDims.start_batching _ _ _ _ hb2,
      GatherDims.offCoord_eq_zero _ _ _ (fun h => ((GatherDims.mem_sKept _ _).mp h).2 hb2)]
    simp only [Nat.zero_add, Nat.add_zero]
    unfold GatherDims.batchCoord
    rw [dif_pos hb2]
    rfl

/-- The take's dimensions of a rank-2 array. -/
def lastDims (B N M : ℕ)
    (wf : GatherDims.WF ⟨2, ![B, N]⟩ ⟨3, ![B, M, 1]⟩ ⟨2, ![B, M]⟩ [] [1] [0] [1] [0] 2 ![1, 1]) :
    GatherDims ⟨2, ![B, N]⟩ ⟨3, ![B, M, 1]⟩ ⟨2, ![B, M]⟩ where
  offsetDims := []
  collapsedSliceDims := [1]
  operandBatchingDims := [0]
  startIndicesBatchingDims := [0]
  startIndexMap := [1]
  indexVectorDim := 2
  sliceSizes := ![1, 1]
  wf := wf

theorem take_last {α : Type} {B N M : ℕ}
    (wf : GatherDims.WF ⟨2, ![B, N]⟩ ⟨3, ![B, M, 1]⟩ ⟨2, ![B, M]⟩ [] [1] [0] [1] [0] 2 ![1, 1])
    (x : (⟨2, ![B, N]⟩ : Shape).Idx → α) (st : IVec ⟨3, ![B, M, 1]⟩ 32) (b : Fin B) (m : Fin M) (k : Fin N)
    (h : (st (ix3 b m 0)).toInt.toNat = k) :
    Host.gather (lastDims B N M wf) x st (ix2 b m) = x (ix2 b k) := by
  unfold Host.gather
  congr 1
  funext a
  refine Fin.ext ?_
  show (lastDims B N M wf).start (ix2 b m) st a + (lastDims B N M wf).batchCoord (ix2 b m) a
      + (lastDims B N M wf).offCoord (ix2 b m) a = _
  have ha : a = 0 ∨ a = 1 := by
    match a with
    | ⟨0, _⟩ => exact Or.inl rfl
    | ⟨1, _⟩ => exact Or.inr rfl
  have hb0 : (0 : Fin 2) ∈ (lastDims B N M wf).operandBatchingDims := by simp [lastDims]
  have hb1 : (1 : Fin 2) ∉ (lastDims B N M wf).operandBatchingDims := by simp [lastDims]
  have hm : (1 : Fin 2) ∈ (lastDims B N M wf).startIndexMap := List.mem_singleton.mpr rfl
  rcases ha with rfl | rfl
  · rw [GatherDims.start_batching _ _ _ _ hb0,
      GatherDims.offCoord_eq_zero _ _ _ (fun h => ((GatherDims.mem_sKept _ _).mp h).2 hb0)]
    simp only [Nat.zero_add, Nat.add_zero]
    unfold GatherDims.batchCoord
    rw [dif_pos hb0]
    rfl
  · rw [GatherDims.batchCoord_eq_zero _ _ _ hb1,
      GatherDims.offCoord_eq_zero _ _ _ (fun h => ((GatherDims.mem_sKept _ _).mp h).1 (List.mem_singleton.mpr rfl))]
    simp only [Nat.add_zero]
    unfold GatherDims.start
    rw [dif_pos hm]
    have hsi : (lastDims B N M wf).siIdx (ix2 b m) ⟨List.idxOf (1 : Fin 2) (lastDims B N M wf).startIndexMap,
        List.idxOf_lt_length_iff.2 hm⟩ = ix3 b m 0 := by
      funext e; refine Fin.ext ?_
      match e with
      | ⟨0, _⟩ => rfl
      | ⟨1, _⟩ => rfl
      | ⟨2, _⟩ => rfl
    rw [hsi, h]
    show min (k : ℕ) (N - 1) = k
    omega

/-! ### The range tests -/

/-- A word in range passes the test of a take. -/
theorem in_range (s : BitVec 32) (n top : ℕ) (htop : top < 2 ^ 31) (hn : n ≤ top) (hs : s = BitVec.ofNat 32 n) :
    IntOp.andi (IntOp.cmpi .sge s 0#32) (IntOp.cmpi .sle s (BitVec.ofNat 32 top)) = 1#1 := by
  have e (k : ℕ) (hk : k < 2 ^ 31) : (BitVec.ofNat 32 k).toInt = (k : ℤ) := by
    rw [BitVec.toInt_eq_toNat_of_lt (by rw [BitVec.toNat_ofNat]; omega), BitVec.toNat_ofNat]
    omega
  subst hs
  have h1 : IntOp.cmpi .sge (BitVec.ofNat 32 n) 0#32 = 1#1 := by
    show BitVec.ofBool (BitVec.sle 0#32 (BitVec.ofNat 32 n)) = 1#1
    have : BitVec.sle 0#32 (BitVec.ofNat 32 n) = true := by
      rw [BitVec.sle, e n (by omega)]; simp
    rw [this]; rfl
  have h2 : IntOp.cmpi .sle (BitVec.ofNat 32 n) (BitVec.ofNat 32 top) = 1#1 := by
    show BitVec.ofBool (BitVec.sle (BitVec.ofNat 32 n) (BitVec.ofNat 32 top)) = 1#1
    have : BitVec.sle (BitVec.ofNat 32 n) (BitVec.ofNat 32 top) = true := by
      rw [BitVec.sle, e n (by omega), e top htop]; simp; omega
    rw [this]; rfl
  rw [h1, h2]; rfl

/-- A word that is not negative is left as it is. -/
theorem not_wrapped (s k : BitVec 32) (n : ℕ) (hn : n < 2 ^ 31) (hs : s = BitVec.ofNat 32 n) :
    Scalar.select (IntOp.cmpi .slt s 0#32) (IntOp.addi s k) s = s := by
  have h : IntOp.cmpi .slt s 0#32 = 0#1 := by
    subst hs
    show BitVec.ofBool (BitVec.slt (BitVec.ofNat 32 n) 0#32) = 0#1
    have : BitVec.slt (BitVec.ofNat 32 n) 0#32 = false := by
      rw [BitVec.slt, BitVec.toInt_eq_toNat_of_lt (by rw [BitVec.toNat_ofNat]; omega), BitVec.toNat_ofNat]
      simp only [BitVec.toInt_zero, decide_eq_false_iff_not, not_lt]
      omega
    rw [this]; rfl
  rw [h]; rfl

theorem toNat_word (n : ℕ) (hn : n < 2 ^ 31) : (BitVec.ofNat 32 n).toInt.toNat = n := by
  rw [BitVec.toInt_eq_toNat_of_lt (by rw [BitVec.toNat_ofNat]; omega), BitVec.toNat_ofNat]
  omega

/-- The test's fold over one number. -/
theorem fold_one (f : Fin 1 → BitVec 1) (h : f 0 = 1#1) : Finset.fold IntOp.andi 1#1 f Finset.univ = 1#1 := by
  show IntOp.andi (f 0) 1#1 = 1#1
  rw [h]; rfl

/-- What passed the test is taken. -/
theorem taken {α : Type} {m : BitVec 1} (a d : α) (h : m = 1#1) : Scalar.select m a d = a := by
  rw [h]; rfl

/-- The positions a stable ranking puts first. -/
theorem topK_at {α : Type} {B N K : ℕ} (gt : α → α → BitVec 1) (w : (⟨2, ![B, N]⟩ : Shape).Idx → α)
    (h : (⟨2, ![B, N]⟩ : Shape).Slices (fun _ => 0) ⟨2, ![B, K]⟩) (hK : K ≤ N) (b : Fin B) (r : Fin K) :
    (Host.topK ⟨2, ![B, K]⟩ 1 gt w h).2 (ix2 b r)
      = BitVec.ofNat 32 (sortedFrom (fun k k' : Fin N => gt (w (ix2 b k)) (w (ix2 b k')) == 1#1) (r.castLE hK)) := by
  have hi : ∀ k : Fin N, (fun a : Fin 2 => (⟨0 + ((ix2 b r : (⟨2, ![B, K]⟩ : Shape).Idx) (a.cast h.1.symm)).val,
      Nat.lt_of_lt_of_le (Nat.add_lt_add_left ((ix2 b r : (⟨2, ![B, K]⟩ : Shape).Idx) _).isLt _) (h.2 a)⟩ :
        Fin ((⟨2, ![B, N]⟩ : Shape).size a))) = (ix2 b (r.castLE hK) : (⟨2, ![B, N]⟩ : Shape).Idx) := by
    intro k
    funext a
    match a with
    | ⟨0, _⟩ => exact Fin.ext (Nat.zero_add _)
    | ⟨1, _⟩ => exact Fin.ext (Nat.zero_add _)
  have al : ∀ (c : Fin N) (k : Fin N), ((ix2 b c : (⟨2, ![B, N]⟩ : Shape).Idx).along (1 : Fin 2) k) = ix2 b k := by
    intro c k
    funext a
    match a with
    | ⟨0, _⟩ => rfl
    | ⟨1, _⟩ => rfl
  unfold Host.topK Host.sort2 extractStridedSlice
  simp only [show (1 : ℕ) < (⟨2, ![B, N]⟩ : Shape).rank from (by decide : (1 : ℕ) < 2), dif_pos]
  erw [hi (r.castLE hK)]
  have e : (fun k k' : Fin N => gt (w ((ix2 b (r.castLE hK) : (⟨2, ![B, N]⟩ : Shape).Idx).along (1 : Fin 2) k))
      (w ((ix2 b (r.castLE hK) : (⟨2, ![B, N]⟩ : Shape).Idx).along (1 : Fin 2) k')) == 1#1)
      = fun k k' => gt (w (ix2 b k)) (w (ix2 b k')) == 1#1 := by
    funext k k'
    rw [al, al]
  have ex : (⟨0 + r.val, by omega⟩ : Fin N) = r.castLE hK := Fin.ext (Nat.zero_add _)
  refine Eq.trans (b := BitVec.ofNat 32 (sortedFrom
    (fun k k' : Fin N => gt (w ((ix2 b (r.castLE hK) : (⟨2, ![B, N]⟩ : Shape).Idx).along (1 : Fin 2) k))
      (w ((ix2 b (r.castLE hK) : (⟨2, ![B, N]⟩ : Shape).Idx).along (1 : Fin 2) k')) == 1#1) ⟨0 + r.val, by omega⟩).val) rfl ?_
  rw [e, ex]

section
open Cert.ReferenceIdeal Cert.ReferenceIdeal.Facts₀

theorem gather_at (st : IVec S1024x128x3x1 32) (x : FVec Ideal S1024x256x3 .f32) (b : Fin 1024) (r : Fin 128) (c : Fin 3)
    (k : Fin 256) (h : st (ix4 b r c 0) = BitVec.ofNat 32 k) : stGather st x (ix3 b r c) = x (ix3 b k c) := by
  have g := take_mid (B := 1024) (N := 256) (M := 128) (C := 3)
    gather_S1024x256x3_S1024x128x3x1_S1024x128x3_n_1_02_02_1_3_111.wf x st b r c k (by rw [h, toNat_word _ (by omega)])
  pointwise [stGather]
  rw [fold_one _ (in_range _ k 255 (by decide) (by omega) h)]
  exact g

theorem triples_at (st : IVec S1024x192x3x1 32) (x : FVec Ideal S1024x128x3 .f32) (b : Fin 1024) (r : Fin 192) (c : Fin 3)
    (k : Fin 128) (h : st (ix4 b r c 0) = BitVec.ofNat 32 k) : stTriples st x (ix3 b r c) = x (ix3 b k c) := by
  have g := take_mid (B := 1024) (N := 128) (M := 192) (C := 3)
    gather_S1024x128x3_S1024x192x3x1_S1024x192x3_n_1_02_02_1_3_111.wf x st b r c k (by rw [h, toNat_word _ (by omega)])
  pointwise [stTriples]
  rw [fold_one _ (in_range _ k 127 (by decide) (by omega) h)]
  exact g

theorem top_at (i : IVec S1024 32) (x : FVec Ideal S1024x64 .f32) (b : Fin 1024) (k : Fin 64)
    (h : i (ix1 b) = BitVec.ofNat 32 k) : stTop i x (ix1 b) = x (ix2 b k) := by
  have hw := (not_wrapped _ 64#32 k (by omega) h).trans h
  pointwise [stTop]
  rw [fold_one _ (in_range _ k 63 (by decide) (by omega) hw)]
  refine take_last (B := 1024) (N := 64) (M := 1) gather_S1024x64_S1024x1x1_S1024x1_n_1_0_0_1_2_11.wf x _ b 0 k ?_
  pointwise []
  rw [hw, toNat_word _ (by omega)]

theorem pick_at (i : IVec S1024 32) (x : FVec Ideal S1024x64x4 .f32) (b : Fin 1024) (c : Fin 3) (k : Fin 64)
    (h : i (ix1 b) = BitVec.ofNat 32 k) : stPick i x (ix2 b c) = x (ix3 b k ⟨c, by omega⟩) := by
  have hw := (not_wrapped _ 64#32 k (by omega) h).trans h
  pointwise [stPick]
  refine (taken _ _ (fold_one _ (in_range _ k 63 (by decide) (by omega) hw))).trans ?_
  refine (take_mid (B := 1024) (N := 64) (M := 1) (C := 3)
    gather_S1024x64x3_S1024x1x3x1_S1024x1x3_n_1_02_02_1_3_111.wf _ _ b 0 c k ?_).trans ?_
  · pointwise []
    rw [hw, toNat_word _ (by omega)]
  · pointwise []

theorem rank_at (w : FVec Ideal S1024x256 .f32) (b : Fin 1024) (r : Fin 128) :
    stRank w (ix2 b r) = BitVec.ofNat 32 (sortedFrom (Spec.ordered fun n : Fin 256 => w (ix2 b n)) (r.castLE (by decide))) := by
  rw [← Spec.sortedFrom_weight (fun n : Fin 256 => w (ix2 b n))
    (fun k k' => FloatOps.cmpfTotal (F := Ideal) .gt (w (ix2 b k)) (w (ix2 b k')) == 1#1) (fun k k' => by
      show (BitVec.ofBool (decide (w (ix2 b k') < w (ix2 b k))) == 1#1) = _
      by_cases h : w (ix2 b k') < w (ix2 b k) <;> simp [h])]
  exact topK_at (B := 1024) (N := 256) (K := 128) _ w _ (by decide) b r

/-! ### The best plane's number -/

/-- One step of the search: the pair held stays if its value is greater, or the same at an earlier position. -/
theorem step_best (v u : EReal) (k h : Fin 64) :
    reducer_argmax_f32_i32 (F := Ideal) (v, BitVec.ofNat 32 k) (u, BitVec.ofNat 32 h)
      = if u < v ∨ (u = v ∧ k < h) then (v, BitVec.ofNat 32 k) else (u, BitVec.ofNat 32 h) := by
  have hs : IntOp.cmpi .slt (BitVec.ofNat 32 k) (BitVec.ofNat 32 h) = BitVec.ofBool (decide (k < h)) := by
    show BitVec.ofBool (decide ((BitVec.ofNat 32 k.val).toInt < (BitVec.ofNat 32 h.val).toInt)) = _
    have hk := k.isLt
    have hh := h.isLt
    have key : ∀ n : ℕ, n < 64 → (BitVec.ofNat 32 n).toInt = (n : ℤ) := fun n hn => by
      have e : (BitVec.ofNat 32 n).toNat = n := by rw [BitVec.toNat_ofNat, Nat.mod_eq_of_lt (by omega)]
      rw [BitVec.toInt_eq_toNat_of_lt (by rw [e]; omega), e]
    rw [key _ hk, key _ hh]
    congr 1
    exact decide_eq_decide.mpr Int.ofNat_lt
  have hg : FloatOps.cmpf (F := Ideal) (φ := .f32) .ogt v u = BitVec.ofBool (decide (u < v)) := rfl
  have hn : FloatOps.cmpf (F := Ideal) (φ := .f32) .une v v = 0#1 := by
    show BitVec.ofBool (decide (v ≠ v)) = 0#1
    simp
  have he : FloatOps.cmpf (F := Ideal) (φ := .f32) .oeq v u = BitVec.ofBool (decide (v = u)) := rfl
  unfold reducer_argmax_f32_i32
  simp only [hs, hg, hn, he]
  rcases lt_trichotomy u v with a | a | a
  · rw [if_pos (Or.inl a)]
    simp only [a, decide_true]
    rcases decide (v = u), decide (k < h) with ⟨_ | _, _ | _⟩ <;> rfl
  · subst a
    by_cases hk : k < h
    · rw [if_pos (Or.inr ⟨rfl, hk⟩)]
      simp only [lt_irrefl, hk, decide_true, decide_false]
      rfl
    · rw [if_neg (by rintro (c | c); exacts [lt_irrefl _ c, hk c.2])]
      simp only [lt_irrefl, hk, decide_true, decide_false]
      rfl
  · rw [if_neg (by rintro (c | c); exacts [lt_asymm a c, absurd c.1 (ne_of_gt a)])]
    have h1 : ¬ u < v := not_lt.mpr a.le
    have h2 : ¬ v = u := ne_of_lt a
    simp only [h1, h2, decide_false]
    rcases decide (k < h) with _ | _ <;> rfl

/-- The search over a list of positions holds a pair that no seen one beats. -/
theorem fold_best (f : Fin 64 → EReal) (L : List (Fin 64)) :
    ∃ (k : Fin 64) (v : EReal), (L.map fun h => (f h, BitVec.ofNat 32 h)).foldl (reducer_argmax_f32_i32 (F := Ideal)) (⊥, 0#32)
        = (v, BitVec.ofNat 32 k) ∧ (f k = v ∨ (v = ⊥ ∧ k = 0)) ∧ ∀ h ∈ L, f h < v ∨ (f h = v ∧ k ≤ h) := by
  induction L using List.reverseRecOn with
  | nil => exact ⟨0, ⊥, rfl, Or.inr ⟨rfl, rfl⟩, fun h hh => absurd hh (List.not_mem_nil)⟩
  | append_singleton l h ih =>
    obtain ⟨k, v, e, hk, hl⟩ := ih
    rw [List.map_append, List.foldl_append, e]
    show ∃ (k' : Fin 64) (v' : EReal), reducer_argmax_f32_i32 (F := Ideal) (v, BitVec.ofNat 32 k) (f h, BitVec.ofNat 32 h) = _ ∧ _
    rw [step_best]
    by_cases c : f h < v ∨ (f h = v ∧ k < h)
    · refine ⟨k, v, if_pos c, hk, fun i hi => ?_⟩
      rcases List.mem_append.mp hi with hi | hi
      · exact hl i hi
      · rw [List.mem_singleton.mp hi]
        exact c.imp id fun c => ⟨c.1, c.2.le⟩
    · refine ⟨h, f h, if_neg c, Or.inl rfl, fun i hi => ?_⟩
      rcases List.mem_append.mp hi with hi | hi
      · have hv : v ≤ f h := not_lt.mp fun c' => c (Or.inl c')
        rcases hl i hi with a | a
        · exact Or.inl (lt_of_lt_of_le a hv)
        · rcases lt_or_eq_of_le hv with b | b
          · exact Or.inl (a.1 ▸ b)
          · refine Or.inr ⟨a.1.trans b, ?_⟩
            exact (not_lt.mp fun c' => c (Or.inr ⟨b.symm, c'⟩)).trans a.2
      · rw [List.mem_singleton.mp hi]
        exact Or.inr ⟨rfl, le_refl _⟩

theorem best_at (s : FVec Ideal S1024x64 .f32) (b : Fin 1024) :
    stBest s (ix1 b) = BitVec.ofNat 32 (Spec.best fun h => s (ix2 b h)) := by
  show (Host.argReduce reducer_argmax_f32_i32 s _ _ _ _ _ (ix1 b)).2 = _
  rw [Ideal.argReduce_eq_reduce2, Host.reduce2_eq_foldl_fiber]
  have hl : ∀ (h : S1024x64.ReducesTo [1] S1024) (hu : 0 < S_.numel),
      ∃ L : List (Fin 64), (∀ k, k ∈ L) ∧ Host.argReduceFiber s (iotaInDim S1024x64 32 1) h (ix1 b)
        = L.map fun k => (s (ix2 b k), BitVec.ofNat 32 k) := by
    intro h hu
    have hd : ∀ i : S1024x64.Idx, h.drop i = ix1 b ↔ i = ix2 b (i 1) := by
      intro i
      constructor
      · intro e
        have e0 : i 0 = b := congrFun e 0
        funext a
        match a with
        | ⟨0, _⟩ => exact e0
        | ⟨1, _⟩ => rfl
      · intro e
        funext a
        match a with
        | ⟨0, _⟩ => exact congrFun e 0
    refine ⟨((List.finRange S1024x64.numel).filter fun n => h.drop (S1024x64.rowMajor.symm n) = ix1 b).map
      fun n => S1024x64.rowMajor.symm n 1, fun k => ?_, ?_⟩
    · refine List.mem_map.mpr ⟨S1024x64.rowMajor (ix2 b k), List.mem_filter.mpr ⟨List.mem_finRange _, ?_⟩, ?_⟩
      · rw [Equiv.symm_apply_apply, (hd _).mpr rfl]; exact decide_eq_true rfl
      · rw [Equiv.symm_apply_apply]; rfl
    · unfold Host.argReduceFiber
      refine Eq.trans ?_ (List.map_map (f := fun n => S1024x64.rowMajor.symm n 1) (g := fun k : Fin 64 => (s (ix2 b k), BitVec.ofNat 32 k))).symm
      refine List.map_congr_left fun n hn => ?_
      have e := (hd _).mp (of_decide_eq_true (List.mem_filter.mp hn).2)
      exact Prod.ext (congrArg s e) rfl
  obtain ⟨L, hL, e⟩ := hl reducesTo_S1024x64_S1024_d1 h_S_
  obtain ⟨k, v, ef, hk, hm⟩ := fold_best (fun h => s (ix2 b h)) L
  have hb : Spec.IsBest (fun h => s (ix2 b h)) k := by
    have hv : s (ix2 b k) = v := hk.elim id fun c => by
      rcases hm 0 (hL 0) with a | a
      · exact absurd (c.1 ▸ a) not_lt_bot
      · rw [c.2]; exact a.1
    refine ⟨fun i => ?_, fun i hi => ?_⟩
    · show s (ix2 b i) ≤ s (ix2 b k)
      rw [hv]
      exact (hm i (hL i)).elim le_of_lt fun a => a.1.le
    · show s (ix2 b i) < s (ix2 b k)
      rw [hv]
      exact (hm i (hL i)).elim id fun a => absurd a.2 (not_le.mpr hi)
  rw [Spec.best_eq hb, show (constant S_ .f32 0xFF800000#32 : FVec Ideal S_ .f32) (Shape.Idx.first h_S_) = (⊥ : EReal) from Spec.ofBits_bot]
  refine (congrArg (fun l => (List.foldl reducer_argmax_f32_i32 (⊥, 0#32) l).2) e).trans ?_
  exact congrArg Prod.snd ef

end

end Cert.Proof.Ref

end
-- ==== Proof.RefRun.lean ====
/- The reference's run: what its nineteen stretches leave, read off the line of operations one stretch at a time, so that
   no term is written twice. -/
module

public import proofs.«01_k».proof.Proof.RefStages
public import Idealize.ShloMosaic.Lib.StableHlo.RunRead
public import Idealize.ShloMosaic.Lib.Claim

@[expose] public section

set_option maxRecDepth 16384

noncomputable section

namespace Cert.Proof.Ref

open Idealize.ShloMosaic Cert.ReferenceIdeal Idealize.ShloMosaic.TcCoe Idealize.SL.Sem
open Idealize.ShloMosaic.StableHlo

/-- Two straight lines, one after the other. -/
theorem isSeq_append {nD : Nat} {τ : Topo} {sig : RefSig} {Val : EltTy → Type} {Λ : Labels}
    {p q : Prog (TpuEff nD τ sig Val Λ .tc) PUnit} {l₁ l₂ : List (HloOp τ sig Val)}
    (h₁ : IsSeq p l₁) (h₂ : IsSeq q l₂) : IsSeq (p >>= fun _ => q) (l₁ ++ l₂) := by
  unfold IsSeq at h₁ h₂ ⊢
  rw [h₁, h₂, seq_append]

/-- One operation alone. -/
theorem isSeq_one {nD : Nat} {τ : Topo} {sig : RefSig} {Val : EltTy → Type} {Λ : Labels} (op : HloOp τ sig Val) :
    IsSeq (hlo rfl op fun _ => .ret (⟨⟩ : PUnit) : Prog (TpuEff nD τ sig Val Λ .tc) PUnit) [op] := by
  unfold IsSeq seq seq
  rfl

/-- The reference's operations, read off the program. -/
def line : { ops : List (HloOp τ sig (Elt Ideal)) // ∀ d, IsSeq (main (F := Ideal) d) ops } :=
  by
    apply Subtype.mk
    intro d
    unfold main
    apply isSeq_append (p := main_part0 (F := Ideal) d)
    · unfold main_part0
      repeat (first | exact IsSeq.nil | exact isSeq_one _ | apply IsSeq.cons | apply isSeq_append)
    · apply isSeq_append (p := main_part1 (F := Ideal) d)
      · unfold main_part1
        repeat (first | exact IsSeq.nil | exact isSeq_one _ | apply IsSeq.cons | apply isSeq_append)
      · unfold main_part2
        repeat (first | exact IsSeq.nil | exact isSeq_one _ | apply IsSeq.cons | apply isSeq_append)

abbrev Val0 := Valuation τ sig (Elt Ideal)

/-- The stretch of `n` operations from position `a`. -/
def part (a n : ℕ) : List (HloOp τ sig (Elt Ideal)) := (line.1.drop a).take n

/-- Stretch A. -/
def segA : List (HloOp τ sig (Elt Ideal)) := part 0 13
/-- Stretch A2. -/
def segA2 : List (HloOp τ sig (Elt Ideal)) := part 13 2
/-- Stretch B. -/
def segB : List (HloOp τ sig (Elt Ideal)) := part 15 2
/-- Stretch B1. -/
def segB1 : List (HloOp τ sig (Elt Ideal)) := part 17 8
/-- Stretch B2. -/
def segB2 : List (HloOp τ sig (Elt Ideal)) := part 25 14
/-- Stretch C. -/
def segC : List (HloOp τ sig (Elt Ideal)) := part 39 3
/-- Stretch C1. -/
def segC1 : List (HloOp τ sig (Elt Ideal)) := part 42 8
/-- Stretch C2. -/
def segC2 : List (HloOp τ sig (Elt Ideal)) := part 50 14
/-- Stretch C3. -/
def segC3 : List (HloOp τ sig (Elt Ideal)) := part 64 1
/-- Stretch D. -/
def segD : List (HloOp τ sig (Elt Ideal)) := part 65 34
/-- Stretch E. -/
def segE : List (HloOp τ sig (Elt Ideal)) := part 99 6
/-- Stretch F. -/
def segF : List (HloOp τ sig (Elt Ideal)) := part 105 17
/-- Stretch G. -/
def segG : List (HloOp τ sig (Elt Ideal)) := part 122 15
/-- Stretch H. -/
def segH : List (HloOp τ sig (Elt Ideal)) := part 137 14
/-- Stretch I. -/
def segI : List (HloOp τ sig (Elt Ideal)) := part 151 14
/-- Stretch J. -/
def segJ : List (HloOp τ sig (Elt Ideal)) := part 165 5
/-- Stretch K. -/
def segK : List (HloOp τ sig (Elt Ideal)) := part 170 24
/-- Stretch L. -/
def segL : List (HloOp τ sig (Elt Ideal)) := part 194 26
/-- Stretch M. -/
def segM : List (HloOp τ sig (Elt Ideal)) := part 220 20

theorem keep_A (V : Val0) {r : Ref sig .tc} (hr : r ∉ ([main_v0, main_v1, main_v2, main_v3, main_v4, main_call0_cst, main_call0_v0, main_v5, main_v6, main_v7, main_v8, main_v9, main_v10] : List (Ref sig .tc))) :
    after segA V (Proc.devRef .tc r) = V (Proc.devRef .tc r) := after_unwritten _ (by rfl) hr V

theorem keep_A2 (V : Val0) {r : Ref sig .tc} (hr : r ∉ ([main_values, main_indices] : List (Ref sig .tc))) :
    after segA2 V (Proc.devRef .tc r) = V (Proc.devRef .tc r) := after_unwritten _ (by rfl) hr V

theorem keep_B (V : Val0) {r : Ref sig .tc} (hr : r ∉ ([main_v11, main_v12] : List (Ref sig .tc))) :
    after segB V (Proc.devRef .tc r) = V (Proc.devRef .tc r) := after_unwritten _ (by rfl) hr V

theorem keep_B1 (V : Val0) {r : Ref sig .tc} (hr : r ∉ ([main_call1_c, main_call1_v0, main_call1_v1, main_call1_c_0, main_call1_v2, main_call1_v3, main_call1_v4, main_call1_v5] : List (Ref sig .tc))) :
    after segB1 V (Proc.devRef .tc r) = V (Proc.devRef .tc r) := after_unwritten _ (by rfl) hr V

theorem keep_B2 (V : Val0) {r : Ref sig .tc} (hr : r ∉ ([main_call1_c_1, main_call1_c_2, main_call1_v6, main_call1_v7, main_call1_v8, main_call1_v9, main_call1_v10, main_call1_v11, main_call1_c_3, main_call1_v12, main_call1_v13, main_call1_cst, main_call1_v14, main_v13] : List (Ref sig .tc))) :
    after segB2 V (Proc.devRef .tc r) = V (Proc.devRef .tc r) := after_unwritten _ (by rfl) hr V

theorem keep_C (V : Val0) {r : Ref sig .tc} (hr : r ∉ ([main_v14, main_v15, main_v16] : List (Ref sig .tc))) :
    after segC V (Proc.devRef .tc r) = V (Proc.devRef .tc r) := after_unwritten _ (by rfl) hr V

theorem keep_C1 (V : Val0) {r : Ref sig .tc} (hr : r ∉ ([main_call2_c, main_call2_v0, main_call2_v1, main_call2_c_0, main_call2_v2, main_call2_v3, main_call2_v4, main_call2_v5] : List (Ref sig .tc))) :
    after segC1 V (Proc.devRef .tc r) = V (Proc.devRef .tc r) := after_unwritten _ (by rfl) hr V

theorem keep_C2 (V : Val0) {r : Ref sig .tc} (hr : r ∉ ([main_call2_c_1, main_call2_c_2, main_call2_v6, main_call2_v7, main_call2_v8, main_call2_v9, main_call2_v10, main_call2_v11, main_call2_c_3, main_call2_v12, main_call2_v13, main_call2_cst, main_call2_v14, main_v17] : List (Ref sig .tc))) :
    after segC2 V (Proc.devRef .tc r) = V (Proc.devRef .tc r) := after_unwritten _ (by rfl) hr V

theorem keep_C3 (V : Val0) {r : Ref sig .tc} (hr : r ∉ ([main_v18] : List (Ref sig .tc))) :
    after segC3 V (Proc.devRef .tc r) = V (Proc.devRef .tc r) := after_unwritten _ (by rfl) hr V

theorem keep_D (V : Val0) {r : Ref sig .tc} (hr : r ∉ ([main_v19, main_v20, main_v21, main_v22, main_v23, main_v24, main_v25, main_v26, main_call3_v0, main_call3_v1, main_call3_v2, main_call3_v3, main_call3_v4, main_call3_v5, main_call3_v6, main_call3_v7, main_call3_v8, main_call3_v9, main_call3_v10, main_call3_v11, main_call3_v12, main_call3_v13, main_call3_v14, main_call3_v15, main_call3_v16, main_call3_v17, main_call3_v18, main_call3_v19, main_call3_v20, main_call3_v21, main_call3_v22, main_call3_v23, main_call3_v24, main_v27] : List (Ref sig .tc))) :
    after segD V (Proc.devRef .tc r) = V (Proc.devRef .tc r) := after_unwritten _ (by rfl) hr V

theorem keep_E (V : Val0) {r : Ref sig .tc} (hr : r ∉ ([main_v28, main_cst, main_v29, main_v30, main_v31, main_v32] : List (Ref sig .tc))) :
    after segE V (Proc.devRef .tc r) = V (Proc.devRef .tc r) := after_unwritten _ (by rfl) hr V

theorem keep_F (V : Val0) {r : Ref sig .tc} (hr : r ∉ ([main_cst_0, main_v33, main_v34, main_v35, main_c, main_v36, main_c_1, main_v37, main_v38, main_c_2, main_v39, main_v40, main_v41, main_cst_3, main_v42, main_call4_v0, main_v43] : List (Ref sig .tc))) :
    after segF V (Proc.devRef .tc r) = V (Proc.devRef .tc r) := after_unwritten _ (by rfl) hr V

theorem keep_G (V : Val0) {r : Ref sig .tc} (hr : r ∉ ([main_v44, main_v45, main_v46, main_v47, main_v48, main_v49, main_v50, main_v51, main_v52, main_v53, main_v54, main_v55, main_v56, main_v57, main_v58] : List (Ref sig .tc))) :
    after segG V (Proc.devRef .tc r) = V (Proc.devRef .tc r) := after_unwritten _ (by rfl) hr V

theorem keep_H (V : Val0) {r : Ref sig .tc} (hr : r ∉ ([main_v59, main_v60, main_v61, main_v62, main_v63, main_v64, main_v65, main_v66, main_cst_4, main_v67, main_v68, main_v69, main_cst_5, main_v70] : List (Ref sig .tc))) :
    after segH V (Proc.devRef .tc r) = V (Proc.devRef .tc r) := after_unwritten _ (by rfl) hr V

theorem keep_I (V : Val0) {r : Ref sig .tc} (hr : r ∉ ([main_v71, main_v72, main_v73, main_v74, main_v75, main_cst_6, main_v76, main_v77, main_v78, main_v79, main_v80, main_cst_7, main_v81, main_v82] : List (Ref sig .tc))) :
    after segI V (Proc.devRef .tc r) = V (Proc.devRef .tc r) := after_unwritten _ (by rfl) hr V

theorem keep_J (V : Val0) {r : Ref sig .tc} (hr : r ∉ ([main_call5_v0, main_call5_cst, main_call5_c, main_call5_v1_0, main_v83] : List (Ref sig .tc))) :
    after segJ V (Proc.devRef .tc r) = V (Proc.devRef .tc r) := after_unwritten _ (by rfl) hr V

theorem keep_K (V : Val0) {r : Ref sig .tc} (hr : r ∉ ([main_v84, main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v85, main_v86] : List (Ref sig .tc))) :
    after segK V (Proc.devRef .tc r) = V (Proc.devRef .tc r) := after_unwritten _ (by rfl) hr V

theorem keep_L (V : Val0) {r : Ref sig .tc} (hr : r ∉ ([main_v87, main_v88, main_v89, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v90, main_v91] : List (Ref sig .tc))) :
    after segL V (Proc.devRef .tc r) = V (Proc.devRef .tc r) := after_unwritten _ (by rfl) hr V

theorem keep_M (V : Val0) {r : Ref sig .tc} (hr : r ∉ ([main_cst_8, main_v92, main_v93, main_cst_9, main_v94, main_cst_10, main_v95, main_v96, main_v97, main_v98, main_v99, main_v100, main_cst_11, main_v101, main_v102, main_v103, main_v104, main_v105, main_cst_12, main_v106] : List (Ref sig .tc))) :
    after segM V (Proc.devRef .tc r) = V (Proc.devRef .tc r) := after_unwritten _ (by rfl) hr V

attribute [local irreducible] Host.reduce Host.gather select broadcastInDim cmpi subi extui andi addi

theorem read_v0 (V : Val0) : after segA V ↑main_v0 = stWeights_v0 (V ↑main_arg0) := by
  after_reads_simp
  try simp only [TRef.ofBuf_toBuf]
  rfl

theorem read_v10 (V : Val0) : after segA V ↑main_v10 = stWeights_v10 (V ↑main_arg0) (V ↑main_arg2) (V ↑main_arg3) (V ↑main_arg4) (V ↑main_arg5) := by
  after_reads_simp
  try simp only [TRef.ofBuf_toBuf]
  rfl

theorem read_indices (V : Val0) : after segA2 V ↑main_indices = stRank (V ↑main_v10) := by
  after_reads_simp
  try simp only [TRef.ofBuf_toBuf]
  rfl

theorem read_v12 (V : Val0) : after segB V ↑main_v12 = stNames (V ↑main_indices) := by
  after_reads_simp
  try simp only [TRef.ofBuf_toBuf]
  rfl

theorem read_k1_v5 (V : Val0) : after segB1 V ↑main_call1_v5 = stStarts (V ↑main_v12) := by
  after_reads_simp
  try simp only [TRef.ofBuf_toBuf]
  rfl

theorem read_v13 (V : Val0) : after segB2 V ↑main_v13 = stGather (V ↑main_call1_v5) (V ↑main_v0) := by
  after_reads_simp
  try simp only [TRef.ofBuf_toBuf]
  rfl

theorem read_v16 (V : Val0) : after segC V ↑main_v16 = stTripleNames (V ↑main_arg6) := by
  after_reads_simp
  try simp only [TRef.ofBuf_toBuf]
  rfl

theorem read_k2_v5 (V : Val0) : after segC1 V ↑main_call2_v5 = stTripleStarts (V ↑main_v16) := by
  after_reads_simp
  try simp only [TRef.ofBuf_toBuf]
  rfl

theorem read_v17 (V : Val0) : after segC2 V ↑main_v17 = stTriples (V ↑main_call2_v5) (V ↑main_v13) := by
  after_reads_simp
  try simp only [TRef.ofBuf_toBuf]
  rfl

theorem read_v18 (V : Val0) : after segC3 V ↑main_v18 = stCorners (V ↑main_v17) := by
  after_reads_simp
  try simp only [TRef.ofBuf_toBuf]
  rfl

theorem read_v20 (V : Val0) : after segD V ↑main_v20 = stCross_v20 (V ↑main_v18) := by
  after_reads_simp
  try simp only [TRef.ofBuf_toBuf]
  rfl

theorem read_v27 (V : Val0) : after segD V ↑main_v27 = stCross_v27 (V ↑main_v18) := by
  after_reads_simp
  try simp only [TRef.ofBuf_toBuf]
  rfl

theorem read_v32 (V : Val0) : after segE V ↑main_v32 = stPlane (V ↑main_v27) (V ↑main_v20) := by
  after_reads_simp
  try simp only [TRef.ofBuf_toBuf]
  rfl

theorem read_v43 (V : Val0) : after segF V ↑main_v43 = stFixed (V ↑main_v32) := by
  after_reads_simp
  try simp only [TRef.ofBuf_toBuf]
  rfl

theorem read_v58 (V : Val0) : after segG V ↑main_v58 = stUnit (V ↑main_v43) := by
  after_reads_simp
  try simp only [TRef.ofBuf_toBuf]
  rfl

theorem read_v70 (V : Val0) : after segH V ↑main_v70 = stScore (V ↑main_v58) (V ↑main_v0) := by
  after_reads_simp
  try simp only [TRef.ofBuf_toBuf]
  rfl

theorem read_v82 (V : Val0) : after segI V ↑main_v82 = stLoss (V ↑main_v58) (V ↑main_arg1) := by
  after_reads_simp
  try simp only [TRef.ofBuf_toBuf]
  rfl

theorem read_v83 (V : Val0) : after segJ V ↑main_v83 = stBest (V ↑main_v70) := by
  after_reads_simp
  try simp only [TRef.ofBuf_toBuf]
  rfl

theorem read_v86 (V : Val0) : after segK V ↑main_v86 = stTop (V ↑main_v83) (V ↑main_v82) := by
  after_reads_simp
  try simp only [TRef.ofBuf_toBuf]
  rfl

theorem read_v91 (V : Val0) : after segL V ↑main_v91 = stPick (V ↑main_v83) (V ↑main_v58) := by
  after_reads_simp
  try simp only [TRef.ofBuf_toBuf]
  rfl

theorem read_v106 (V : Val0) : after segM V ↑main_v106 = stExp (V ↑main_v82) (V ↑main_v70) := by
  after_reads_simp
  try simp only [TRef.ofBuf_toBuf]
  rfl

theorem after_append {l₁ l₂ : List (HloOp τ sig (Elt Ideal))} (V : Val0) :
    after (l₁ ++ l₂) V = after l₂ (after l₁ V) := by
  induction l₁ generalizing V with
  | nil => rfl
  | cons op l ih => exact ih _

/-- The line from position `a` on is its first `n` operations there and then the line from `a + n` on. -/
theorem after_drop (a n : ℕ) (V : Val0) :
    after (line.1.drop a) V = after (line.1.drop (a + n)) (after (part a n) V) := by
  unfold part
  rw [← after_append, ← List.drop_drop, List.take_append_drop]

/-- The run, stretch by stretch. -/
theorem after_line (V : Val0) : after line.1 V =
    after segM (after segL (after segK (after segJ (after segI (after segH (after segG (after segF (after segE (after segD (after segC3 (after segC2 (after segC1 (after segC (after segB2 (after segB1 (after segB (after segA2 (after segA V)))))))))))))))))) := by
  show after (line.1.drop 0) V = _
  rw [after_drop 0 13]
  rw [after_drop 13 2]
  rw [after_drop 15 2]
  rw [after_drop 17 8]
  rw [after_drop 25 14]
  rw [after_drop 39 3]
  rw [after_drop 42 8]
  rw [after_drop 50 14]
  rw [after_drop 64 1]
  rw [after_drop 65 34]
  rw [after_drop 99 6]
  rw [after_drop 105 17]
  rw [after_drop 122 15]
  rw [after_drop 137 14]
  rw [after_drop 151 14]
  rw [after_drop 165 5]
  rw [after_drop 170 24]
  rw [after_drop 194 26]
  rw [after_drop 220 20]
  rfl

end Cert.Proof.Ref

end
-- ==== Proof.RefValue.lean ====
/- The reference's four results as functions of its seven arguments, and its run. -/
module

public import proofs.«01_k».proof.Proof.RefRun
public import Idealize.ShloMosaic.Lib.StableHlo.RunHlo

@[expose] public section

set_option maxRecDepth 16384

noncomputable section

namespace Cert.Proof.Ref

open Idealize.ShloMosaic Cert.ReferenceIdeal Idealize.ShloMosaic.TcCoe Idealize.SL.Sem
open Idealize.ShloMosaic.StableHlo

section
variable (a0 : FVec Ideal S1024x3x256 .f32) (a1 : FVec Ideal S1024x3 .f32) (a2 : FVec Ideal S3x64 .f32)
  (a3 : FVec Ideal S64 .f32) (a4 : FVec Ideal S64x1 .f32) (a5 : FVec Ideal S1 .f32) (a6 : IVec S1024x64x3 32)

/-- The guided points. -/
def guided : FVec Ideal S1024x128x3 .f32 :=
  stGather (stStarts (stNames (stRank (stWeights_v10 a0 a2 a3 a4 a5)))) (stWeights_v0 a0)

/-- The sampled triples of guided points. -/
def corners : FVec Ideal S1024x64x3x3 .f32 :=
  stCorners (stTriples (stTripleStarts (stTripleNames a6)) (guided a0 a2 a3 a4 a5))

/-- The normalized planes. -/
def planes : FVec Ideal S1024x64x4 .f32 :=
  stUnit (stFixed (stPlane (stCross_v27 (corners a0 a2 a3 a4 a5 a6)) (stCross_v20 (corners a0 a2 a3 a4 a5 a6))))

/-- The planes' scores. -/
def scores : FVec Ideal S1024x64 .f32 := stScore (planes a0 a2 a3 a4 a5 a6) (stWeights_v0 a0)

/-- The planes' losses. -/
def losses : FVec Ideal S1024x64 .f32 := stLoss (planes a0 a2 a3 a4 a5 a6) a1

/-- The best plane's loss. -/
def topLoss : FVec Ideal S1024 .f32 := stTop (stBest (scores a0 a2 a3 a4 a5 a6)) (losses a0 a1 a2 a3 a4 a5 a6)

/-- The best plane's normal. -/
def pick : FVec Ideal S1024x3 .f32 := stPick (stBest (scores a0 a2 a3 a4 a5 a6)) (planes a0 a2 a3 a4 a5 a6)

/-- The expected loss. -/
def expLoss : FVec Ideal S1024 .f32 := stExp (losses a0 a1 a2 a3 a4 a5 a6) (scores a0 a2 a3 a4 a5 a6)

end

section
variable (V : Val0)

/-- The contents once the guided points are there; -/
def upB2 : Val0 := after segB2 (after segB1 (after segB (after segA2 (after segA V))))
/-- once the sampled triples are; -/
def upC3 : Val0 := after segC3 (after segC2 (after segC1 (after segC (upB2 V))))
/-- once the planes are; -/
def upG : Val0 := after segG (after segF (after segE (after segD (upC3 V))))
/-- once the scores, the losses and the best plane's number are. -/
def upJ : Val0 := after segJ (after segI (after segH (upG V)))

theorem after_line' : after line.1 V = after segM (after segL (after segK (upJ V))) := after_line V

theorem upB2_v13 : upB2 V (Proc.devRef .tc main_v13) = guided (V ↑main_arg0) (V ↑main_arg2) (V ↑main_arg3) (V ↑main_arg4) (V ↑main_arg5) :=
  (read_v13 _).trans (congr (congrArg stGather ((read_k1_v5 _).trans (congrArg stStarts ((read_v12 _).trans (congrArg stNames ((read_indices _).trans (congrArg stRank ((read_v10 _).trans (congr (congr (congr (congr (congrArg stWeights_v10 (rfl)) (rfl)) (rfl)) (rfl)) (rfl)))))))))) ((keep_B1 _ (by decide)).trans ((keep_B _ (by decide)).trans ((keep_A2 _ (by decide)).trans ((read_v0 _).trans (congrArg stWeights_v0 (rfl)))))))

theorem upB2_v0 : upB2 V (Proc.devRef .tc main_v0) = stWeights_v0 (V ↑main_arg0) :=
  (keep_B2 _ (by decide)).trans ((keep_B1 _ (by decide)).trans ((keep_B _ (by decide)).trans ((keep_A2 _ (by decide)).trans ((read_v0 _).trans (congrArg stWeights_v0 (rfl))))))

theorem upB2_arg1 : upB2 V (Proc.devRef .tc main_arg1) = V ↑main_arg1 :=
  (keep_B2 _ (by decide)).trans ((keep_B1 _ (by decide)).trans ((keep_B _ (by decide)).trans ((keep_A2 _ (by decide)).trans (keep_A _ (by decide)))))

theorem upB2_arg6 : upB2 V (Proc.devRef .tc main_arg6) = V ↑main_arg6 :=
  (keep_B2 _ (by decide)).trans ((keep_B1 _ (by decide)).trans ((keep_B _ (by decide)).trans ((keep_A2 _ (by decide)).trans (keep_A _ (by decide)))))

theorem upC3_v18 : upC3 V (Proc.devRef .tc main_v18) = corners (V ↑main_arg0) (V ↑main_arg2) (V ↑main_arg3) (V ↑main_arg4) (V ↑main_arg5) (V ↑main_arg6) :=
  (read_v18 _).trans (congrArg stCorners ((read_v17 _).trans (congr (congrArg stTriples ((read_k2_v5 _).trans (congrArg stTripleStarts ((read_v16 _).trans (congrArg stTripleNames (upB2_arg6 V)))))) ((keep_C1 _ (by decide)).trans ((keep_C _ (by decide)).trans (upB2_v13 V))))))

theorem upC3_v13 : upC3 V (Proc.devRef .tc main_v13) = guided (V ↑main_arg0) (V ↑main_arg2) (V ↑main_arg3) (V ↑main_arg4) (V ↑main_arg5) :=
  (keep_C3 _ (by decide)).trans ((keep_C2 _ (by decide)).trans ((keep_C1 _ (by decide)).trans ((keep_C _ (by decide)).trans (upB2_v13 V))))

theorem upC3_v0 : upC3 V (Proc.devRef .tc main_v0) = stWeights_v0 (V ↑main_arg0) :=
  (keep_C3 _ (by decide)).trans ((keep_C2 _ (by decide)).trans ((keep_C1 _ (by decide)).trans ((keep_C _ (by decide)).trans (upB2_v0 V))))

theorem upC3_arg1 : upC3 V (Proc.devRef .tc main_arg1) = V ↑main_arg1 :=
  (keep_C3 _ (by decide)).trans ((keep_C2 _ (by decide)).trans ((keep_C1 _ (by decide)).trans ((keep_C _ (by decide)).trans (upB2_arg1 V))))

theorem upG_v58 : upG V (Proc.devRef .tc main_v58) = planes (V ↑main_arg0) (V ↑main_arg2) (V ↑main_arg3) (V ↑main_arg4) (V ↑main_arg5) (V ↑main_arg6) :=
  (read_v58 _).trans (congrArg stUnit ((read_v43 _).trans (congrArg stFixed ((read_v32 _).trans (congr (congrArg stPlane ((read_v27 _).trans (congrArg stCross_v27 (upC3_v18 V)))) ((read_v20 _).trans (congrArg stCross_v20 (upC3_v18 V))))))))

theorem upG_v13 : upG V (Proc.devRef .tc main_v13) = guided (V ↑main_arg0) (V ↑main_arg2) (V ↑main_arg3) (V ↑main_arg4) (V ↑main_arg5) :=
  (keep_G _ (by decide)).trans ((keep_F _ (by decide)).trans ((keep_E _ (by decide)).trans ((keep_D _ (by decide)).trans (upC3_v13 V))))

theorem upG_v0 : upG V (Proc.devRef .tc main_v0) = stWeights_v0 (V ↑main_arg0) :=
  (keep_G _ (by decide)).trans ((keep_F _ (by decide)).trans ((keep_E _ (by decide)).trans ((keep_D _ (by decide)).trans (upC3_v0 V))))

theorem upG_arg1 : upG V (Proc.devRef .tc main_arg1) = V ↑main_arg1 :=
  (keep_G _ (by decide)).trans ((keep_F _ (by decide)).trans ((keep_E _ (by decide)).trans ((keep_D _ (by decide)).trans (upC3_arg1 V))))

theorem upJ_v70 : upJ V (Proc.devRef .tc main_v70) = scores (V ↑main_arg0) (V ↑main_arg2) (V ↑main_arg3) (V ↑main_arg4) (V ↑main_arg5) (V ↑main_arg6) :=
  (keep_J _ (by decide)).trans ((keep_I _ (by decide)).trans ((read_v70 _).trans (congr (congrArg stScore (upG_v58 V)) (upG_v0 V))))

theorem upJ_v82 : upJ V (Proc.devRef .tc main_v82) = losses (V ↑main_arg0) (V ↑main_arg1) (V ↑main_arg2) (V ↑main_arg3) (V ↑main_arg4) (V ↑main_arg5) (V ↑main_arg6) :=
  (keep_J _ (by decide)).trans ((read_v82 _).trans (congr (congrArg stLoss ((keep_H _ (by decide)).trans (upG_v58 V))) ((keep_H _ (by decide)).trans (upG_arg1 V))))

theorem upJ_v83 : upJ V (Proc.devRef .tc main_v83) = stBest (scores (V ↑main_arg0) (V ↑main_arg2) (V ↑main_arg3) (V ↑main_arg4) (V ↑main_arg5) (V ↑main_arg6)) :=
  (read_v83 _).trans (congrArg stBest ((keep_I _ (by decide)).trans ((read_v70 _).trans (congr (congrArg stScore (upG_v58 V)) (upG_v0 V)))))

theorem upJ_v58 : upJ V (Proc.devRef .tc main_v58) = planes (V ↑main_arg0) (V ↑main_arg2) (V ↑main_arg3) (V ↑main_arg4) (V ↑main_arg5) (V ↑main_arg6) :=
  (keep_J _ (by decide)).trans ((keep_I _ (by decide)).trans ((keep_H _ (by decide)).trans (upG_v58 V)))

theorem upJ_v13 : upJ V (Proc.devRef .tc main_v13) = guided (V ↑main_arg0) (V ↑main_arg2) (V ↑main_arg3) (V ↑main_arg4) (V ↑main_arg5) :=
  (keep_J _ (by decide)).trans ((keep_I _ (by decide)).trans ((keep_H _ (by decide)).trans (upG_v13 V)))

theorem end_v106 : after line.1 V (Proc.devRef .tc main_v106) = expLoss (V ↑main_arg0) (V ↑main_arg1) (V ↑main_arg2) (V ↑main_arg3) (V ↑main_arg4) (V ↑main_arg5) (V ↑main_arg6) := by
  rw [after_line']
  exact (read_v106 _).trans (congr (congrArg stExp ((keep_L _ (by decide)).trans ((keep_K _ (by decide)).trans (upJ_v82 V)))) ((keep_L _ (by decide)).trans ((keep_K _ (by decide)).trans (upJ_v70 V))))

theorem end_v86 : after line.1 V (Proc.devRef .tc main_v86) = topLoss (V ↑main_arg0) (V ↑main_arg1) (V ↑main_arg2) (V ↑main_arg3) (V ↑main_arg4) (V ↑main_arg5) (V ↑main_arg6) := by
  rw [after_line']
  exact (keep_M _ (by decide)).trans ((keep_L _ (by decide)).trans ((read_v86 _).trans (congr (congrArg stTop (upJ_v83 V)) (upJ_v82 V))))

theorem end_v91 : after line.1 V (Proc.devRef .tc main_v91) = pick (V ↑main_arg0) (V ↑main_arg2) (V ↑main_arg3) (V ↑main_arg4) (V ↑main_arg5) (V ↑main_arg6) := by
  rw [after_line']
  exact (keep_M _ (by decide)).trans ((read_v91 _).trans (congr (congrArg stPick ((keep_K _ (by decide)).trans (upJ_v83 V))) ((keep_K _ (by decide)).trans (upJ_v58 V))))

theorem end_v13 : after line.1 V (Proc.devRef .tc main_v13) = guided (V ↑main_arg0) (V ↑main_arg2) (V ↑main_arg3) (V ↑main_arg4) (V ↑main_arg5) := by
  rw [after_line']
  exact (keep_M _ (by decide)).trans ((keep_L _ (by decide)).trans ((keep_K _ (by decide)).trans (upJ_v13 V)))

/-- An argument ends as it was. -/
theorem end_arg {r : Ref sig .tc} (hr : r ∈ ([main_arg0, main_arg1, main_arg2, main_arg3, main_arg4, main_arg5, main_arg6] : List (Ref sig .tc))) :
    after line.1 V (Proc.devRef .tc r) = V (Proc.devRef .tc r) := by
  rw [after_line]
  simp only [List.mem_cons, List.not_mem_nil, or_false] at hr
  rcases hr with rfl | rfl | rfl | rfl | rfl | rfl | rfl
  all_goals exact (keep_M _ (by decide)).trans ((keep_L _ (by decide)).trans ((keep_K _ (by decide)).trans ((keep_J _ (by decide)).trans ((keep_I _ (by decide)).trans ((keep_H _ (by decide)).trans ((keep_G _ (by decide)).trans ((keep_F _ (by decide)).trans ((keep_E _ (by decide)).trans ((keep_D _ (by decide)).trans ((keep_C3 _ (by decide)).trans ((keep_C2 _ (by decide)).trans ((keep_C1 _ (by decide)).trans ((keep_C _ (by decide)).trans ((keep_B2 _ (by decide)).trans ((keep_B1 _ (by decide)).trans ((keep_B _ (by decide)).trans ((keep_A2 _ (by decide)).trans (keep_A _ (by decide)))))))))))))))))))

end

/-- The reference runs, and ends with its results and its arguments as they were. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v106)
          = expLoss (m (c.tc.loc main_arg0)) (m (c.tc.loc main_arg1)) (m (c.tc.loc main_arg2)) (m (c.tc.loc main_arg3)) (m (c.tc.loc main_arg4)) (m (c.tc.loc main_arg5)) (m (c.tc.loc main_arg6))
      ∧ r.2.mem ((c.tc : Thread nD τ).loc main_v86)
          = topLoss (m (c.tc.loc main_arg0)) (m (c.tc.loc main_arg1)) (m (c.tc.loc main_arg2)) (m (c.tc.loc main_arg3)) (m (c.tc.loc main_arg4)) (m (c.tc.loc main_arg5)) (m (c.tc.loc main_arg6))
      ∧ r.2.mem ((c.tc : Thread nD τ).loc main_v91)
          = pick (m (c.tc.loc main_arg0)) (m (c.tc.loc main_arg2)) (m (c.tc.loc main_arg3)) (m (c.tc.loc main_arg4)) (m (c.tc.loc main_arg5)) (m (c.tc.loc main_arg6))
      ∧ r.2.mem ((c.tc : Thread nD τ).loc main_v13)
          = guided (m (c.tc.loc main_arg0)) (m (c.tc.loc main_arg2)) (m (c.tc.loc main_arg3)) (m (c.tc.loc main_arg4)) (m (c.tc.loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_)
    (run_hlo defs main line.2 (by decide) (by decide) (by simp [line])
      (by intro _ h; (repeat (cases h with | head => rfl | tail _ h => ?_)); exact nomatch h) m ρ)
  exact ⟨(h c main_v106).trans (end_v106 _), (h c main_v86).trans (end_v86 _), (h c main_v91).trans (end_v91 _),
    (h c main_v13).trans (end_v13 _), (h c _).trans (end_arg _ (by decide)), (h c _).trans (end_arg _ (by decide)),
    (h c _).trans (end_arg _ (by decide)), (h c _).trans (end_arg _ (by decide)), (h c _).trans (end_arg _ (by decide)),
    (h c _).trans (end_arg _ (by decide)), (h c _).trans (end_arg _ (by decide))⟩

end Cert.Proof.Ref

end
-- ==== Proof.RowSpec.lean ====
/- The four results of a whole batch, in the batch row's values of `Spec`: what both programs are shown to leave. -/
module

public import proofs.«01_k».proof.Proof.Spec

@[expose] public section

noncomputable section

namespace Cert.Proof.Spec

open Idealize.ShloMosaic

variable (a0 : FVec Ideal ⟨3, ![1024, 3, 256]⟩ .f32) (a1 : FVec Ideal ⟨2, ![1024, 3]⟩ .f32) (a2 : FVec Ideal ⟨2, ![3, 64]⟩ .f32)
  (a3 : FVec Ideal ⟨1, ![64]⟩ .f32) (a4 : FVec Ideal ⟨2, ![64, 1]⟩ .f32) (a5 : FVec Ideal ⟨1, ![1]⟩ .f32)
  (a6 : IVec ⟨3, ![1024, 64, 3]⟩ 32)

/-- Batch row `b`'s points. -/
def pts (b : Fin 1024) : Fin 256 → Fin 3 → EReal := fun n c => a0 (ix3 b c n)

/-- Their weights. -/
def wts (b : Fin 1024) : Fin 256 → EReal :=
  weight (pts a0 b) (fun c k => a2 (ix2 c k)) (fun k => a3 (ix1 k)) (fun k => a4 (ix2 k 0)) (a5 (ix1 0))

/-- The guided points. -/
def gd (b : Fin 1024) : Fin 128 → Fin 3 → EReal := guide (pts a0 b) (wts a0 a2 a3 a4 a5 b)

/-- The hypothesis of a sampled triple. -/
def hy (b : Fin 1024) (h : Fin 64) : Fin 4 → EReal := hyp fun j c => named (gd a0 a2 a3 a4 a5 b) (a6 (ix3 b h j)) c

/-- The hypotheses' scores. -/
def sc (b : Fin 1024) (h : Fin 64) : EReal := score (pts a0 b) (hy a0 a2 a3 a4 a5 a6 b h)

/-- The hypotheses' losses. -/
def lo (b : Fin 1024) (h : Fin 64) : EReal := loss (hy a0 a2 a3 a4 a5 a6 b h) fun c => a1 (ix2 b c)

/-- The expected loss. -/
def expd (b : Fin 1024) : EReal := expected (lo a0 a1 a2 a3 a4 a5 a6 b) (sc a0 a2 a3 a4 a5 a6 b)

/-- The best hypothesis's loss. -/
def top (b : Fin 1024) : EReal := lo a0 a1 a2 a3 a4 a5 a6 b (best (sc a0 a2 a3 a4 a5 a6 b))

/-- The best hypothesis's normal. -/
def pk (b : Fin 1024) (c : Fin 3) : EReal := hy a0 a2 a3 a4 a5 a6 b (best (sc a0 a2 a3 a4 a5 a6 b)) ⟨c, by omega⟩

/-- Every sampled number names one of the 128 guided points. -/
def Named : Prop := ∀ b h j, ∃ k : Fin 128, a6 (ix3 b h j) = BitVec.ofNat 32 k

end Cert.Proof.Spec

end
-- ==== Proof.RefFinal.lean ====
/- The reference's four results, index by index, are the values of `RowSpec`. -/
module

public import proofs.«01_k».proof.Proof.RefGather
public import proofs.«01_k».proof.Proof.RefValue
public import proofs.«01_k».proof.Proof.RowSpec

@[expose] public section

noncomputable section

namespace Cert.Proof.Ref

open Idealize.ShloMosaic Cert.ReferenceIdeal

variable (a0 : FVec Ideal S1024x3x256 .f32) (a1 : FVec Ideal S1024x3 .f32) (a2 : FVec Ideal S3x64 .f32)
  (a3 : FVec Ideal S64 .f32) (a4 : FVec Ideal S64x1 .f32) (a5 : FVec Ideal S1 .f32) (a6 : IVec S1024x64x3 32)

theorem guided_at (b : Fin 1024) (r : Fin 128) (c : Fin 3) :
    guided a0 a2 a3 a4 a5 (ix3 b r c) = Spec.gd a0 a2 a3 a4 a5 b r c := by
  unfold guided
  have hw : (fun n : Fin 256 => stWeights_v10 a0 a2 a3 a4 a5 (ix2 b n)) = Spec.wts a0 a2 a3 a4 a5 b :=
    funext fun n => weights_at a0 a2 a3 a4 a5 b n
  have hr := rank_at (stWeights_v10 a0 a2 a3 a4 a5) b r
  rw [gather_at _ _ b r c (sortedFrom (Spec.ordered fun n : Fin 256 => stWeights_v10 a0 a2 a3 a4 a5 (ix2 b n)) (r.castLE (by decide)))
    ((names_at _ b r c).trans ((not_wrapped _ 256#32 _ (by omega) hr).trans hr)), points_at, hw]
  exact (Spec.guide_eq (Spec.pts a0 b) (Spec.wts a0 a2 a3 a4 a5 b) r c).symm

/-- The hypotheses through given corners. -/
theorem hyp_at (K : FVec Ideal S1024x64x3x3 .f32) (b : Fin 1024) (h : Fin 64) (c : Fin 4) :
    stUnit (stFixed (stPlane (stCross_v27 K) (stCross_v20 K))) (ix3 b h c) = Spec.hyp (fun j c => K (ix4 b h j c)) c := by
  have p : (fun c => stPlane (stCross_v27 K) (stCross_v20 K) (ix3 b h c)) = Spec.plane fun j c => K (ix4 b h j c) :=
    funext fun c => plane_at K b h c
  have f : (fun c => stFixed (stPlane (stCross_v27 K) (stCross_v20 K)) (ix3 b h c)) = Spec.fixed (Spec.plane fun j c => K (ix4 b h j c)) :=
    funext fun c => (fixed_at _ b h c).trans (by rw [p])
  exact (unit_at _ b h c).trans (by rw [f]; rfl)

variable (ha : Spec.Named a6)
include ha

theorem corners_eq (b : Fin 1024) (h : Fin 64) (j c : Fin 3) :
    corners a0 a2 a3 a4 a5 a6 (ix4 b h j c) = Spec.named (Spec.gd a0 a2 a3 a4 a5 b) (a6 (ix3 b h j)) c := by
  obtain ⟨k, hk⟩ := ha b h j
  unfold corners
  rw [corners_at, triples_at _ _ b _ c k ((tripleNames_at _ b h j c).trans ((not_wrapped _ 128#32 _ (by omega) hk).trans hk)), guided_at,
    Spec.named_eq _ _ _ k hk]

theorem planes_at (b : Fin 1024) (h : Fin 64) (c : Fin 4) :
    planes a0 a2 a3 a4 a5 a6 (ix3 b h c) = Spec.hy a0 a2 a3 a4 a5 a6 b h c := by
  refine (hyp_at (corners a0 a2 a3 a4 a5 a6) b h c).trans ?_
  exact congrArg (fun P => Spec.hyp P c) (funext fun j => funext fun c => corners_eq a0 a2 a3 a4 a5 a6 ha b h j c)

theorem scores_at (b : Fin 1024) (h : Fin 64) : scores a0 a2 a3 a4 a5 a6 (ix2 b h) = Spec.sc a0 a2 a3 a4 a5 a6 b h := by
  refine (score_at _ _ b h).trans ?_
  rw [show (fun n c => stWeights_v0 a0 (ix3 b n c)) = Spec.pts a0 b from funext fun n => funext fun c => points_at a0 b n c,
    show (fun c => planes a0 a2 a3 a4 a5 a6 (ix3 b h c)) = Spec.hy a0 a2 a3 a4 a5 a6 b h from
      funext fun c => planes_at a0 a2 a3 a4 a5 a6 ha b h c]
  rfl

theorem losses_at (b : Fin 1024) (h : Fin 64) : losses a0 a1 a2 a3 a4 a5 a6 (ix2 b h) = Spec.lo a0 a1 a2 a3 a4 a5 a6 b h := by
  refine (loss_at _ _ b h).trans ?_
  rw [show (fun c => planes a0 a2 a3 a4 a5 a6 (ix3 b h c)) = Spec.hy a0 a2 a3 a4 a5 a6 b h from
    funext fun c => planes_at a0 a2 a3 a4 a5 a6 ha b h c]
  rfl

theorem best_of (b : Fin 1024) :
    stBest (scores a0 a2 a3 a4 a5 a6) (ix1 b) = BitVec.ofNat 32 (Spec.best (Spec.sc a0 a2 a3 a4 a5 a6 b)) := by
  rw [best_at]
  exact congrArg (fun s => BitVec.ofNat 32 (Spec.best s).val) (funext fun h => scores_at a0 a2 a3 a4 a5 a6 ha b h)

theorem topLoss_at (b : Fin 1024) : topLoss a0 a1 a2 a3 a4 a5 a6 (ix1 b) = Spec.top a0 a1 a2 a3 a4 a5 a6 b := by
  unfold topLoss Spec.top
  rw [top_at _ _ b _ (best_of a0 a2 a3 a4 a5 a6 ha b), losses_at _ _ _ _ _ _ _ ha]

theorem pick_eq (b : Fin 1024) (c : Fin 3) : pick a0 a2 a3 a4 a5 a6 (ix2 b c) = Spec.pk a0 a2 a3 a4 a5 a6 b c := by
  unfold pick Spec.pk
  rw [pick_at _ _ b c _ (best_of a0 a2 a3 a4 a5 a6 ha b), planes_at _ _ _ _ _ _ ha]

theorem expLoss_at (b : Fin 1024) : expLoss a0 a1 a2 a3 a4 a5 a6 (ix1 b) = Spec.expd a0 a1 a2 a3 a4 a5 a6 b := by
  unfold expLoss Spec.expd
  rw [exp_at, show (fun h => losses a0 a1 a2 a3 a4 a5 a6 (ix2 b h)) = Spec.lo a0 a1 a2 a3 a4 a5 a6 b from
      funext fun h => losses_at a0 a1 a2 a3 a4 a5 a6 ha b h,
    show (fun h => scores a0 a2 a3 a4 a5 a6 (ix2 b h)) = Spec.sc a0 a2 a3 a4 a5 a6 b from
      funext fun h => scores_at a0 a2 a3 a4 a5 a6 ha b h]

end Cert.Proof.Ref

end
-- ==== Proof.KRows.lean ====
/- The kernel's block, row by row: the sixty-four rows of a block are computed by the same operations, each at its own row
   of the operands. Here the stored rows are gathered into one family over the row's number. -/
module

public import proofs.«01_k».proof.Proof.Gen.KernelIdeal.Frame
public import Idealize.ShloMosaic.Lib.Pipeline.ValueKit

@[expose] public section

set_option maxRecDepth 16384

noncomputable section

namespace Cert.Proof.Ker

open Idealize.ShloMosaic Cert.KernelIdeal Cert.KernelIdeal.Gen

variable {F : FTy → Type} [FloatOps F]

/-- The weights of a row's points. -/
def rowW (x : FVec F S1x256x3 .f32) (W1 : FVec F S3x64 .f32) (b1 : FVec F S1x64 .f32) (W2 : FVec F S64x1 .f32) (b2 : FVec F S1x1 .f32) :
    FVec F S256x1 .f32 := k0_pay204 W2 (k0_pay131 b2) (k0_pay133 (k0_pay66 x) W1 (k0_pay130 b1) (constant S256x64 .f32 0x00000000#32))

/-- A row's guided points, from its points, the order table and its weights. -/
def rowG (x : FVec F S1x3x256 .f32) (tri : FVec F S256x256 .bf16) (p : FVec F S256x1 .f32) : FVec F S3x128 .f32 :=
  k0_pay551 (k0_pay2 x) (k0_pay475 (k0_pay410 (k0_pay332 (k0_pay132 tri) p (k0_pay268 p))))

/-- A row's sampled corners, from its guided points and sampled numbers. -/
def rowT (g : FVec F S3x128 .f32) (s : IVec S1x1x192 32) : FVec F S3x192 .f32 := k0_pay756 g (k0_pay680 (k0_pay679 (F := F) s) (Scalar.ofBits .f32 0x3F800000#32))

theorem in0 : ∀ (k : Fin 64) (a : Fin 3), (![k.val, 0, 0] : Fin 3 → Nat) a + S1x3x256.size a ≤ S64x3x256.size a := by decide
theorem in1 : ∀ (k : Fin 64) (a : Fin 3), (![k.val, 0, 0] : Fin 3 → Nat) a + S1x256x3.size a ≤ S64x256x3.size a := by decide
theorem in7 : ∀ (k : Fin 64) (a : Fin 3), (![k.val, 0, 0] : Fin 3 → Nat) a + S1x1x192.size a ≤ S64x1x192.size a := by decide
theorem in10 : ∀ (k : Fin 64) (a : Fin 3), (![k.val, 0, 0] : Fin 3 → Nat) a + S1x3x128.size a ≤ S64x3x128.size a := by decide

/-- Row `k` of each operand cut by rows. -/
abbrev R0 (k : Fin 64) : Rect S64x3x256 := Rect.unit (s := S64x3x256) ![k.val, 0, 0] S1x3x256.size (in0 k)
abbrev R1 (k : Fin 64) : Rect S64x256x3 := Rect.unit (s := S64x256x3) ![k.val, 0, 0] S1x256x3.size (in1 k)
abbrev R7 (k : Fin 64) : Rect S64x1x192 := Rect.unit (s := S64x1x192) ![k.val, 0, 0] S1x1x192.size (in7 k)
abbrev R10 (k : Fin 64) : Rect S64x3x128 := Rect.unit (s := S64x3x128) ![k.val, 0, 0] S1x3x128.size (in10 k)

variable (x0 : Vec F S64x3x256 .f32) (x1 : Vec F S64x256x3 .f32) (x2 : Vec F S64x1x3 .f32) (x3 : Vec F S3x64 .f32)
  (x4 : Vec F S1x64 .f32) (x5 : Vec F S64x1 .f32) (x6 : Vec F S1x1 .f32) (x7 : Vec F S64x1x192 .i32) (x8 : Vec F S256x256 .bf16)

/-- Row `k`'s guided points. -/
def rG (k : Fin 64) : FVec F S3x128 .f32 :=
  rowG (View.ld x0 (R0 k)) (View.ld x8 r0_132)
    (rowW (View.ld x1 (R1 k)) (View.ld x3 r0_128) (View.ld x4 r0_129) (View.ld x5 r0_130) (View.ld x6 r0_131))

theorem out10_rows : out0_10 x0 x1 x2 x3 x4 x5 x6 x7 x8
    = View.canon (List.ofFn fun k : Fin 64 => ⟨R10 k.rev, k0_pay615 (rG x0 x1 x3 x4 x5 x6 x8 k.rev)⟩) := rfl

/-- Row `k`'s sampled corners. -/
def rT (k : Fin 64) : FVec F S3x192 .f32 := rowT (rG x0 x1 x3 x4 x5 x6 x8 k) (View.ld x7 (R7 k))

/-- A row's planes, coordinate by coordinate, from its sampled corners. -/
def rowX (T : FVec F S3x192 .f32) : FVec F S1x64 .f32 := k0_pay1020 (k0_pay820 T) (k0_pay821 T) (k0_pay822 T)
def rowY (T : FVec F S3x192 .f32) : FVec F S1x64 .f32 := k0_pay1021 (k0_pay820 T) (k0_pay821 T) (k0_pay822 T)
def rowZ (T : FVec F S3x192 .f32) : FVec F S1x64 .f32 := k0_pay1022 (k0_pay820 T) (k0_pay821 T) (k0_pay822 T)
def rowD (T : FVec F S3x192 .f32) : FVec F S1x64 .f32 := k0_pay1023 (k0_pay820 T) (k0_pay821 T) (k0_pay822 T)

/-- Sixty-four rows, one above the other. -/
def stack (f : Fin 64 → FVec F S1x64 .f32) : FVec F S64x64 .f32 :=
  concatenate S64x64 0 (List.ofFn fun k : Fin 64 => (⟨S1x64, f k⟩ : (s : Shape) × FVec F s .f32)) concatenates_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S64x64_d0

/-- Where a plane is zero throughout. -/
def void (X Y Z D : FVec F S64x64 .f32) : IVec S64x64 1 :=
  andi (andi (andi (cmpf .oeq X (broadcast S64x64 (Scalar.ofBits .f32 0x00000000#32))) (cmpf .oeq Y (broadcast S64x64 (Scalar.ofBits .f32 0x00000000#32))))
    (cmpf .oeq Z (broadcast S64x64 (Scalar.ofBits .f32 0x00000000#32)))) (cmpf .oeq D (broadcast S64x64 (Scalar.ofBits .f32 0x00000000#32)))

/-- One coordinate `A` of a plane, one where the plane is zero throughout. -/
def mend (X Y Z D A : FVec F S64x64 .f32) : FVec F S64x64 .f32 :=
  select (void X Y Z D) (broadcast S64x64 (Scalar.ofBits .f32 0x3F800000#32)) A

/-- The normal's length. -/
def len (X Y Z D : FVec F S64x64 .f32) : FVec F S64x64 .f32 :=
  sqrt (addf (addf (mulf (mend X Y Z D X) (mend X Y Z D X)) (mulf (mend X Y Z D Y) (mend X Y Z D Y))) (mulf (mend X Y Z D Z) (mend X Y Z D Z)))

/-- One coordinate of the hypotheses. -/
def norm (X Y Z D A : FVec F S64x64 .f32) : FVec F S64x64 .f32 := divf (mend X Y Z D A) (len X Y Z D)

def bX : FVec F S64x64 .f32 := stack fun k => rowX (rT x0 x1 x3 x4 x5 x6 x7 x8 k)
def bY : FVec F S64x64 .f32 := stack fun k => rowY (rT x0 x1 x3 x4 x5 x6 x7 x8 k)
def bZ : FVec F S64x64 .f32 := stack fun k => rowZ (rT x0 x1 x3 x4 x5 x6 x7 x8 k)
def bD : FVec F S64x64 .f32 := stack fun k => rowD (rT x0 x1 x3 x4 x5 x6 x7 x8 k)

/-- One coordinate of the block's hypotheses. -/
def bN (A : FVec F S64x64 .f32) : FVec F S64x64 .f32 :=
  norm (bX x0 x1 x3 x4 x5 x6 x7 x8) (bY x0 x1 x3 x4 x5 x6 x7 x8) (bZ x0 x1 x3 x4 x5 x6 x7 x8) (bD x0 x1 x3 x4 x5 x6 x7 x8) A

theorem rows_X : k0_pay2533 x0 x1 x2 x3 x4 x5 x6 x7 x8 = bN x0 x1 x3 x4 x5 x6 x7 x8 (bX x0 x1 x3 x4 x5 x6 x7 x8) := rfl
theorem rows_Y : k0_pay2534 x0 x1 x2 x3 x4 x5 x6 x7 x8 = bN x0 x1 x3 x4 x5 x6 x7 x8 (bY x0 x1 x3 x4 x5 x6 x7 x8) := rfl
theorem rows_Z : k0_pay2535 x0 x1 x2 x3 x4 x5 x6 x7 x8 = bN x0 x1 x3 x4 x5 x6 x7 x8 (bZ x0 x1 x3 x4 x5 x6 x7 x8) := rfl
theorem rows_D : k0_pay2536 x0 x1 x2 x3 x4 x5 x6 x7 x8 = bN x0 x1 x3 x4 x5 x6 x7 x8 (bD x0 x1 x3 x4 x5 x6 x7 x8) := rfl

theorem inS : ∀ k : Fin 64, S64x64.Slices (![k.val, 0] : Fin 2 → Nat) S1x64 := by decide

/-- Row `k`'s scores, from its points and the block's hypotheses. -/
def rowS (k : Fin 64) (x : FVec F S1x256x3 .f32) (X Y Z D : FVec F S64x64 .f32) : FVec F S1x64 .f32 :=
  let q := concatenate S3x64 0 [⟨S1x64, extractStridedSlice S1x64 ![k.val, 0] X (inS k)⟩, ⟨S1x64, extractStridedSlice S1x64 ![k.val, 0] Y (inS k)⟩,
    ⟨S1x64, extractStridedSlice S1x64 ![k.val, 0] Z (inS k)⟩] concatenates_S1x64_S1x64_S1x64_S3x64_d0
  let d := addf (matmul dot_S256x3_S3x64_S256x64_1_0_0_1_n_n none (k0_pay66 x) q (constant S256x64 .f32 0x00000000#32))
    (broadcastTo S256x64 (extractStridedSlice S1x64 ![k.val, 0] D (inS k)) broadcasts_S1x64_S256x64)
  let e := exp (divf (subf (broadcast S256x64 (Scalar.ofBits .f32 0x00000000#32)) (mulf d d)) (broadcast S256x64 (Scalar.ofBits .f32 0x3CA3D70A#32)))
  shapeCast S1x64 (multiReduction .add [0] S64 e 0x00000000#32 reduces_S256x64_S64 (.inl rfl) rfl) shapeCasts_S64_S1x64

/-- The block's scores. -/
def stackS (X Y Z D : FVec F S64x64 .f32) : FVec F S64x64 .f32 := stack fun k => rowS k (View.ld x1 (R1 k)) X Y Z D

/-- How far each hypothesis is from its row's target. -/
def lossB (X Y Z : FVec F S64x64 .f32) (t : FVec F S64x1x3 .f32) : FVec F S64x64 .f32 :=
  k0_pay1910 X Y Z (k0_pay1905 t) (k0_pay1906 t) (k0_pay1907 t) (k0_pay1908 X t) (k0_pay1909 t)

/-- The entry of `A` at each row's best hypothesis. -/
def kept (A S : FVec F S64x64 .f32) : FVec F S64x1 .f32 :=
  shapeCast S64x1 (multiReduction .add [1] S64 (mulf A (k0_pay1911 S)) 0x00000000#32 reduces_S64x64_S64 (.inl rfl) rfl) shapeCasts_S64_S64x1

/-- What the block's four hypothesis coordinates leave of the scalar results. -/
def tail (t : FVec F S64x1x3 .f32) (X Y Z S : FVec F S64x64 .f32) : FVec F S64x1x8 .f32 :=
  k0_pay1 S (lossB X Y Z t) (kept (lossB X Y Z t) S) (kept X S) (kept Y S) (kept Z S) k0_pay1916

theorem out9_rows : out0_9 x0 x1 x2 x3 x4 x5 x6 x7 x8
    = View.canon [⟨r0_262, tail (View.ld x2 r0_261) (k0_pay2533 x0 x1 x2 x3 x4 x5 x6 x7 x8) (k0_pay2534 x0 x1 x2 x3 x4 x5 x6 x7 x8)
        (k0_pay2535 x0 x1 x2 x3 x4 x5 x6 x7 x8)
        (stackS x1 (k0_pay2533 x0 x1 x2 x3 x4 x5 x6 x7 x8) (k0_pay2534 x0 x1 x2 x3 x4 x5 x6 x7 x8) (k0_pay2535 x0 x1 x2 x3 x4 x5 x6 x7 x8)
          (k0_pay2536 x0 x1 x2 x3 x4 x5 x6 x7 x8))⟩] := rfl

end Cert.Proof.Ker

end
-- ==== Proof.KPoint.lean ====
/- The kernel's row operations at an index, over extended reals. -/
module

public import proofs.«01_k».proof.Proof.KRows
public import proofs.«01_k».proof.Proof.Spec

@[expose] public section

set_option maxRecDepth 16384

noncomputable section

open scoped BigOperators

namespace Cert.Proof.Ker

open Idealize.ShloMosaic Idealize.ShloMosaic.TcCoe Cert.KernelIdeal Cert.KernelIdeal.Gen

theorem rowW_at (x : FVec Ideal S1x256x3 .f32) (W1 : FVec Ideal S3x64 .f32) (b1 : FVec Ideal S1x64 .f32) (W2 : FVec Ideal S64x1 .f32)
    (b2 : FVec Ideal S1x1 .f32) (n : Fin 256) :
    rowW x W1 b1 W2 b2 (ix2 n 0) = Spec.weight (fun n c => x (ix3 0 n c)) (fun c k => W1 (ix2 c k)) (fun k => b1 (ix2 0 k))
      (fun k => W2 (ix2 k 0)) (b2 (ix2 0 0)) n := by
  pointwise [rowW, k0_pay204, k0_pay131, k0_pay133, k0_pay66, k0_pay130, Spec.weight]

theorem rowG_at (x : FVec Ideal S1x3x256 .f32) (tri : FVec Ideal S256x256 .bf16) (p : FVec Ideal S256x1 .f32)
    (ht : ∀ i j : Fin 256, tri (ix2 i j) = if j < i then (1 : EReal) else 0) (c : Fin 3) (r : Fin 128) :
    rowG x tri p (ix2 c r) = Spec.guide (fun n c => x (ix3 0 c n)) (fun n => p (ix2 n 0)) r c := by
  pointwise [rowG, k0_pay551, k0_pay2, k0_pay475, k0_pay410, k0_pay332, k0_pay132, k0_pay268, k0_pay409, k0_pay474, Spec.guide]
  refine Finset.sum_congr rfl fun n _ => congrArg (x (ix3 0 c n) * ·) (if_congr ?_ rfl rfl)
  rw [Spec.sitofp_ofNat r (by omega), ← Spec.real_eq_iff]
  exact Eq.congr (Spec.sum_count (fun n => p (ix2 n 0)) n (fun j => tri (ix2 n j)) (ht n)) rfl

theorem rowT_at (g : FVec Ideal S3x128 .f32) (s : IVec S1x1x192 32) (c : Fin 3) (r : Fin 192) :
    rowT g s (ix2 c r) = Spec.named (fun r c => g (ix2 c r)) (s (ix3 0 0 r)) c := by
  pointwise [rowT, k0_pay756, k0_pay680, k0_pay679, Spec.named]
  refine Finset.sum_congr rfl fun n _ => ?_
  by_cases h : s (ix3 0 0 r) = BitVec.ofNat 32 n
  · rw [if_pos h, mul_one, h]
    show Scalar.select (BitVec.ofBool (BitVec.ofNat 32 n == BitVec.ofNat 32 n)) _ _ = _
    rw [beq_self_eq_true]
    rfl
  · rw [if_neg h, mul_zero]
    show Scalar.select (BitVec.ofBool (s (ix3 0 0 r) == BitVec.ofNat 32 n)) _ _ = _
    rw [beq_eq_false_iff_ne.mpr h]
    rfl

theorem stack_at (f : Fin 64 → FVec Ideal S1x64 .f32) (k : Fin 64) (h : Fin 64) : stack f (ix2 k h) = f k (ix2 0 h) := by
  unfold stack
  refine concatenate_ofFn_unit_eq (s₁ := S1x64) (t := S64x64) 0 f _ (ix2 k h) _ rfl rfl fun n i e0 e1 e2 => ?_
  have hn : k = n := Fin.ext e0
  have hi : i = ix2 0 h := by
    funext a
    match a with
    | ⟨0, _⟩ => exact Fin.ext e1
    | ⟨1, _⟩ => exact Fin.ext (e2 1 (by decide))
  rw [hn, hi]

/-- The columns of a triple's three corners. -/
def col (h : Fin 64) : Fin 3 → Fin 192 := ![⟨h, by omega⟩, ⟨64 + h, by omega⟩, ⟨128 + h, by omega⟩]

theorem rowX_at (T : FVec Ideal S3x192 .f32) (h : Fin 64) :
    rowX T (ix2 0 h) = Spec.plane (fun j c => T (ix2 c (col h j))) 0 := by
  pointwise [rowX, k0_pay820, k0_pay821, k0_pay822, k0_pay1020, k0_pay1015, k0_pay1016, k0_pay1018, k0_pay1019, k0_pay1014, k0_pay1017, k0_pay1012, k0_pay1013]
  rfl

theorem rowY_at (T : FVec Ideal S3x192 .f32) (h : Fin 64) :
    rowY T (ix2 0 h) = Spec.plane (fun j c => T (ix2 c (col h j))) 1 := by
  pointwise [rowY, k0_pay820, k0_pay821, k0_pay822, k0_pay1021, k0_pay1015, k0_pay1016, k0_pay1018, k0_pay1019, k0_pay1014, k0_pay1017, k0_pay1012, k0_pay1013]
  rfl

theorem rowZ_at (T : FVec Ideal S3x192 .f32) (h : Fin 64) :
    rowZ T (ix2 0 h) = Spec.plane (fun j c => T (ix2 c (col h j))) 2 := by
  pointwise [rowZ, k0_pay820, k0_pay821, k0_pay822, k0_pay1022, k0_pay1015, k0_pay1016, k0_pay1018, k0_pay1019, k0_pay1014, k0_pay1017, k0_pay1012, k0_pay1013]
  rfl

theorem rowD_at (T : FVec Ideal S3x192 .f32) (h : Fin 64) :
    rowD T (ix2 0 h) = Spec.plane (fun j c => T (ix2 c (col h j))) 3 := by
  pointwise [rowD, k0_pay820, k0_pay821, k0_pay822, k0_pay1020, k0_pay1021, k0_pay1022, k0_pay1023, k0_pay1015, k0_pay1016, k0_pay1018, k0_pay1019, k0_pay1014, k0_pay1017, k0_pay1012, k0_pay1013]
  rw [zero_sub]
  rfl

/-- A choice on four zeros. -/
theorem select_void (a b c d u : EReal) :
    Scalar.select (IntOp.andi (IntOp.andi (IntOp.andi (BitVec.ofBool (decide (a = 0))) (BitVec.ofBool (decide (b = 0))))
      (BitVec.ofBool (decide (c = 0)))) (BitVec.ofBool (decide (d = 0)))) 1 u = if a = 0 ∧ b = 0 ∧ c = 0 ∧ d = 0 then 1 else u := by
  by_cases h0 : a = 0 <;> by_cases h1 : b = 0 <;> by_cases h2 : c = 0 <;> by_cases h3 : d = 0
  all_goals
    simp only [h0, h1, h2, h3, decide_true, decide_false, and_true, and_false, true_and, false_and, if_true, if_false]
    rfl

theorem norm_at (X Y Z D : FVec Ideal S64x64 .f32) (k : Fin 64) (h : Fin 64) (q : Fin 4 → EReal)
    (h0 : X (ix2 k h) = q 0) (h1 : Y (ix2 k h) = q 1) (h2 : Z (ix2 k h) = q 2) (h3 : D (ix2 k h) = q 3)
    (A : FVec Ideal S64x64 .f32) (c : Fin 4) (ha : A (ix2 k h) = q c) :
    norm X Y Z D A (ix2 k h) = Spec.unit (Spec.fixed q) c := by
  pointwise [norm, mend, void, len]
  simp only [h0, h1, h2, h3, ha, select_void]
  rfl

theorem rowS_at (X Y Z D : FVec Ideal S64x64 .f32) (x : FVec Ideal S1x256x3 .f32) (k : Fin 64) (h : Fin 64) (q : Fin 4 → EReal)
    (h0 : X (ix2 k h) = q 0) (h1 : Y (ix2 k h) = q 1) (h2 : Z (ix2 k h) = q 2) (h3 : D (ix2 k h) = q 3) :
    rowS k x X Y Z D (ix2 0 h) = Spec.score (fun n c => x (ix3 0 n c)) q := by
  pointwise [rowS, k0_pay66]
  unfold Spec.score
  refine Finset.sum_congr rfl fun n _ => ?_
  rw [Fin.sum_univ_three, zero_sub]
  have e : (x (ix3 0 n 0) * X (ix2 k h) + x (ix3 0 n 1) * Y (ix2 k h) + x (ix3 0 n 2) * Z (ix2 k h)) + D (ix2 k h)
      = Spec.dist (fun c => x (ix3 0 n c)) q := by
    rw [h0, h1, h2, h3]; rfl
  rw [← e]
  rfl

/-- The scalar results of a block's row. -/
theorem loss_at (t : FVec Ideal S64x1x3 .f32) (X Y Z : FVec Ideal S64x64 .f32) (k : Fin 64) (h : Fin 64) (q : Fin 4 → EReal)
    (h0 : X (ix2 k h) = q 0) (h1 : Y (ix2 k h) = q 1) (h2 : Z (ix2 k h) = q 2) :
    lossB X Y Z t (ix2 k h) = Spec.loss q fun j => t (ix3 k 0 j) := by
  pointwise [lossB, k0_pay1910, k0_pay1905, k0_pay1906, k0_pay1907, k0_pay1908, k0_pay1909, k0_pay1904]
  rw [h0, h1, h2]
  rfl

/-- The entry kept is the best hypothesis's. -/
theorem kept_at (A S : FVec Ideal S64x64 .f32) (k : Fin 64) (s : Fin 64 → EReal) (hs : ∀ h, S (ix2 k h) = s h) :
    kept A S (ix2 k 0) = A (ix2 k (Spec.best s)) := by
  pointwise [kept, k0_pay1911]
  simp only [hs, Spec.sitofp_ofNat]
  exact Spec.sum_best s fun h => A (ix2 k h)

variable (t : FVec Ideal S64x1x3 .f32) (X Y Z S : FVec Ideal S64x64 .f32) (k : Fin 64) (q : Fin 64 → Fin 4 → EReal) (s : Fin 64 → EReal)

theorem tail0_at (hl : ∀ h, lossB X Y Z t (ix2 k h) = Spec.loss (q h) fun j => t (ix3 k 0 j)) (hs : ∀ h, S (ix2 k h) = s h) :
    tail t X Y Z S (ix3 k 0 0) = Spec.expected (fun h => Spec.loss (q h) fun j => t (ix3 k 0 j)) s := by
  unfold tail
  generalize lossB X Y Z t = L at *
  generalize kept L S = a
  generalize kept X S = b
  generalize kept Y S = c
  generalize kept Z S = d
  pointwise [k0_pay1, k0_pay1916]
  simp only [hl, hs]
  rfl

/-- The four columns kept after the first. -/
theorem columns_kept (L : FVec Ideal S64x64 .f32) (a b c d : FVec Ideal S64x1 .f32) :
    k0_pay1 S L a b c d k0_pay1916 (ix3 k 0 1) = a (ix2 k 0) ∧ k0_pay1 S L a b c d k0_pay1916 (ix3 k 0 2) = b (ix2 k 0)
      ∧ k0_pay1 S L a b c d k0_pay1916 (ix3 k 0 3) = c (ix2 k 0) ∧ k0_pay1 S L a b c d k0_pay1916 (ix3 k 0 4) = d (ix2 k 0) := by
  refine ⟨?_, ?_, ?_, ?_⟩ <;> pointwise [k0_pay1]

theorem tail1_at (hl : ∀ h, lossB X Y Z t (ix2 k h) = Spec.loss (q h) fun j => t (ix3 k 0 j)) (hs : ∀ h, S (ix2 k h) = s h) :
    tail t X Y Z S (ix3 k 0 1) = Spec.loss (q (Spec.best s)) fun j => t (ix3 k 0 j) :=
  (columns_kept S k _ _ _ _ _).1.trans ((kept_at _ S k s hs).trans (hl _))
theorem tail2_at (hs : ∀ h, S (ix2 k h) = s h) : tail t X Y Z S (ix3 k 0 2) = X (ix2 k (Spec.best s)) :=
  (columns_kept S k _ _ _ _ _).2.1.trans (kept_at X S k s hs)
theorem tail3_at (hs : ∀ h, S (ix2 k h) = s h) : tail t X Y Z S (ix3 k 0 3) = Y (ix2 k (Spec.best s)) :=
  (columns_kept S k _ _ _ _ _).2.2.1.trans (kept_at Y S k s hs)
theorem tail4_at (hs : ∀ h, S (ix2 k h) = s h) : tail t X Y Z S (ix3 k 0 4) = Z (ix2 k (Spec.best s)) :=
  (columns_kept S k _ _ _ _ _).2.2.2.trans (kept_at Z S k s hs)

end Cert.Proof.Ker

end
-- ==== Proof.KBlock.lean ====
/- What the kernel's block leaves, row by row, in the values of `RowSpec`: the block's operands are rows `b k` of the arrays. -/
module

public import proofs.«01_k».proof.Proof.KPoint
public import proofs.«01_k».proof.Proof.RowSpec

@[expose] public section

set_option maxRecDepth 16384

noncomputable section

open scoped BigOperators

namespace Cert.Proof.Ker

open Idealize.ShloMosaic Idealize.ShloMosaic.TcCoe Cert.KernelIdeal Cert.KernelIdeal.Gen

variable (x0 : Vec Ideal S64x3x256 .f32) (x1 : Vec Ideal S64x256x3 .f32) (x2 : Vec Ideal S64x1x3 .f32) (x3 : Vec Ideal S3x64 .f32)
  (x4 : Vec Ideal S1x64 .f32) (x5 : Vec Ideal S64x1 .f32) (x6 : Vec Ideal S1x1 .f32) (x7 : Vec Ideal S64x1x192 .i32)
  (x8 : Vec Ideal S256x256 .bf16)

theorem ld0 (k : Fin 64) (c : Fin 3) (n : Fin 256) : View.ld x0 (R0 k) (ix3 0 c n) = x0 (ix3 k c n) := by
  unfold View.ld; blk_ext [] <;> exact (Rect.idx_unit_val _ _ _ _ _).trans (by simp)
theorem ld1 (k : Fin 64) (n : Fin 256) (c : Fin 3) : View.ld x1 (R1 k) (ix3 0 n c) = x1 (ix3 k n c) := by
  unfold View.ld; blk_ext [] <;> exact (Rect.idx_unit_val _ _ _ _ _).trans (by simp)
theorem ld7 (k : Fin 64) (r : Fin 192) : View.ld x7 (R7 k) (ix3 0 0 r) = x7 (ix3 k 0 r) := by
  unfold View.ld; blk_ext [] <;> exact (Rect.idx_unit_val _ _ _ _ _).trans (by simp)
theorem ld2 (k : Fin 64) (c : Fin 3) : View.ld x2 r0_261 (ix3 k 0 c) = x2 (ix3 k 0 c) := by
  unfold View.ld; blk_ext [] <;> exact (Rect.idx_unit_val _ _ _ _ _).trans (by simp)
theorem ld3 (c : Fin 3) (j : Fin 64) : View.ld x3 r0_128 (ix2 c j) = x3 (ix2 c j) := by
  unfold View.ld; blk_ext [] <;> exact (Rect.idx_unit_val _ _ _ _ _).trans (by simp)
theorem ld4 (j : Fin 64) : View.ld x4 r0_129 (ix2 0 j) = x4 (ix2 0 j) := by
  unfold View.ld; blk_ext [] <;> exact (Rect.idx_unit_val _ _ _ _ _).trans (by simp)
theorem ld5 (j : Fin 64) : View.ld x5 r0_130 (ix2 j 0) = x5 (ix2 j 0) := by
  unfold View.ld; blk_ext [] <;> exact (Rect.idx_unit_val _ _ _ _ _).trans (by simp)
theorem ld6 : View.ld x6 r0_131 (ix2 0 0) = x6 (ix2 0 0) := by
  unfold View.ld; blk_ext [] <;> exact (Rect.idx_unit_val _ _ _ _ _).trans (by simp)
theorem ld8 (i j : Fin 256) : View.ld x8 r0_132 (ix2 i j) = x8 (ix2 i j) := by
  unfold View.ld; blk_ext [] <;> exact (Rect.idx_unit_val _ _ _ _ _).trans (by simp)

variable (a0 : FVec Ideal ⟨3, ![1024, 3, 256]⟩ .f32) (a1 : FVec Ideal ⟨2, ![1024, 3]⟩ .f32) (a2 : FVec Ideal ⟨2, ![3, 64]⟩ .f32)
  (a3 : FVec Ideal ⟨1, ![64]⟩ .f32) (a4 : FVec Ideal ⟨2, ![64, 1]⟩ .f32) (a5 : FVec Ideal ⟨1, ![1]⟩ .f32)
  (a6 : IVec ⟨3, ![1024, 64, 3]⟩ 32) (b : Fin 64 → Fin 1024)

/-- The block's operands are the arrays' rows `b k`. -/
structure Cut : Prop where
  h0 : ∀ k c n, x0 (ix3 k c n) = a0 (ix3 (b k) c n)
  h1 : ∀ k n c, x1 (ix3 k n c) = a0 (ix3 (b k) c n)
  h2 : ∀ k c, x2 (ix3 k 0 c) = a1 (ix2 (b k) c)
  h3 : ∀ c j, x3 (ix2 c j) = a2 (ix2 c j)
  h4 : ∀ j, x4 (ix2 0 j) = a3 (ix1 j)
  h5 : ∀ j, x5 (ix2 j 0) = a4 (ix2 j 0)
  h6 : x6 (ix2 0 0) = a5 (ix1 0)
  h7 : ∀ k h j, x7 (ix3 k 0 (col h j)) = a6 (ix3 (b k) h j)
  h8 : ∀ i j : Fin 256, x8 (ix2 i j) = if j < i then (1 : EReal) else 0

variable {x0 x1 x2 x3 x4 x5 x6 x7 x8 a0 a1 a2 a3 a4 a5 a6 b}
variable (H : Cut x0 x1 x2 x3 x4 x5 x6 x7 x8 a0 a1 a2 a3 a4 a5 a6 b) (k : Fin 64)
include H

theorem rW_at (n : Fin 256) : rowW (F := Ideal) (View.ld x1 (R1 k)) (View.ld x3 r0_128) (View.ld x4 r0_129) (View.ld x5 r0_130) (View.ld x6 r0_131) (ix2 n 0)
    = Spec.wts a0 a2 a3 a4 a5 (b k) n := by
  have e1 : (fun n c => View.ld x1 (R1 k) (ix3 0 n c)) = Spec.pts a0 (b k) :=
    funext fun n => funext fun c => (ld1 x1 k n c).trans (H.h1 k n c)
  have e3 : (fun c j => View.ld x3 r0_128 (ix2 c j)) = (fun c j => a2 (ix2 c j)) := funext fun c => funext fun j => (ld3 x3 c j).trans (H.h3 c j)
  have e4 : (fun j => View.ld x4 r0_129 (ix2 0 j)) = (fun j => a3 (ix1 j)) := funext fun j => (ld4 x4 j).trans (H.h4 j)
  have e5 : (fun j => View.ld x5 r0_130 (ix2 j 0)) = (fun j => a4 (ix2 j 0)) := funext fun j => (ld5 x5 j).trans (H.h5 j)
  rw [rowW_at, e1, e3, e4, e5, (ld6 x6).trans H.h6]
  rfl

theorem rG_at (c : Fin 3) (r : Fin 128) : rG x0 x1 x3 x4 x5 x6 x8 k (ix2 c r) = Spec.gd a0 a2 a3 a4 a5 (b k) r c := by
  have e0 : (fun n c => View.ld x0 (R0 k) (ix3 0 c n)) = Spec.pts a0 (b k) :=
    funext fun n => funext fun c => (ld0 x0 k c n).trans (H.h0 k c n)
  unfold rG
  rw [rowG_at _ _ _ (fun i j => (ld8 x8 i j).trans (H.h8 i j)), e0, funext fun n => rW_at H k n]
  rfl

/-- A row's sampled corners, before they are read off by coordinate. -/
theorem corners_at (h : Fin 64) : (fun j c => rT x0 x1 x3 x4 x5 x6 x7 x8 k (ix2 c (col h j)))
    = fun j c => Spec.named (Spec.gd a0 a2 a3 a4 a5 (b k)) (a6 (ix3 (b k) h j)) c := by
  funext j c
  unfold rT
  rw [rowT_at, show (fun r c => rG x0 x1 x3 x4 x5 x6 x8 k (ix2 c r)) = Spec.gd a0 a2 a3 a4 a5 (b k) from
      funext fun r => funext fun c => rG_at H k c r, (ld7 x7 k (col h j)).trans (H.h7 k h j)]

/-- The plane of a sampled triple. -/
abbrev pl (a0 : FVec Ideal ⟨3, ![1024, 3, 256]⟩ .f32) (a2 : FVec Ideal ⟨2, ![3, 64]⟩ .f32)
  (a3 : FVec Ideal ⟨1, ![64]⟩ .f32) (a4 : FVec Ideal ⟨2, ![64, 1]⟩ .f32) (a5 : FVec Ideal ⟨1, ![1]⟩ .f32)
  (a6 : IVec ⟨3, ![1024, 64, 3]⟩ 32) (b : Fin 1024) (h : Fin 64) : Fin 4 → EReal :=
  Spec.plane fun j c => Spec.named (Spec.gd a0 a2 a3 a4 a5 b) (a6 (ix3 b h j)) c

theorem bX_at (h : Fin 64) : bX x0 x1 x3 x4 x5 x6 x7 x8 (ix2 k h) = pl a0 a2 a3 a4 a5 a6 (b k) h 0 := by
  unfold bX; rw [stack_at, rowX_at, corners_at H k h]
theorem bY_at (h : Fin 64) : bY x0 x1 x3 x4 x5 x6 x7 x8 (ix2 k h) = pl a0 a2 a3 a4 a5 a6 (b k) h 1 := by
  unfold bY; rw [stack_at, rowY_at, corners_at H k h]
theorem bZ_at (h : Fin 64) : bZ x0 x1 x3 x4 x5 x6 x7 x8 (ix2 k h) = pl a0 a2 a3 a4 a5 a6 (b k) h 2 := by
  unfold bZ; rw [stack_at, rowZ_at, corners_at H k h]
theorem bD_at (h : Fin 64) : bD x0 x1 x3 x4 x5 x6 x7 x8 (ix2 k h) = pl a0 a2 a3 a4 a5 a6 (b k) h 3 := by
  unfold bD; rw [stack_at, rowD_at, corners_at H k h]

/-- One coordinate of a row's hypotheses. -/
theorem bN_at (h : Fin 64) (A : FVec Ideal S64x64 .f32) (c : Fin 4) (ha : A (ix2 k h) = pl a0 a2 a3 a4 a5 a6 (b k) h c) :
    bN x0 x1 x3 x4 x5 x6 x7 x8 A (ix2 k h) = Spec.hy a0 a2 a3 a4 a5 a6 (b k) h c :=
  norm_at _ _ _ _ k h _ (bX_at H k h) (bY_at H k h) (bZ_at H k h) (bD_at H k h) A c ha

theorem nX_at (h : Fin 64) : k0_pay2533 x0 x1 x2 x3 x4 x5 x6 x7 x8 (ix2 k h) = Spec.hy a0 a2 a3 a4 a5 a6 (b k) h 0 := by
  rw [rows_X]; exact bN_at H k h _ 0 (bX_at H k h)
theorem nY_at (h : Fin 64) : k0_pay2534 x0 x1 x2 x3 x4 x5 x6 x7 x8 (ix2 k h) = Spec.hy a0 a2 a3 a4 a5 a6 (b k) h 1 := by
  rw [rows_Y]; exact bN_at H k h _ 1 (bY_at H k h)
theorem nZ_at (h : Fin 64) : k0_pay2535 x0 x1 x2 x3 x4 x5 x6 x7 x8 (ix2 k h) = Spec.hy a0 a2 a3 a4 a5 a6 (b k) h 2 := by
  rw [rows_Z]; exact bN_at H k h _ 2 (bZ_at H k h)
theorem nD_at (h : Fin 64) : k0_pay2536 x0 x1 x2 x3 x4 x5 x6 x7 x8 (ix2 k h) = Spec.hy a0 a2 a3 a4 a5 a6 (b k) h 3 := by
  rw [rows_D]; exact bN_at H k h _ 3 (bD_at H k h)

theorem nS_at (h : Fin 64) : stackS x1 (k0_pay2533 x0 x1 x2 x3 x4 x5 x6 x7 x8) (k0_pay2534 x0 x1 x2 x3 x4 x5 x6 x7 x8)
    (k0_pay2535 x0 x1 x2 x3 x4 x5 x6 x7 x8) (k0_pay2536 x0 x1 x2 x3 x4 x5 x6 x7 x8) (ix2 k h) = Spec.sc a0 a2 a3 a4 a5 a6 (b k) h := by
  unfold stackS
  rw [stack_at, rowS_at _ _ _ _ _ k h _ (nX_at H k h) (nY_at H k h) (nZ_at H k h) (nD_at H k h),
    show (fun n c => View.ld x1 (R1 k) (ix3 0 n c)) = Spec.pts a0 (b k) from funext fun n => funext fun c => (ld1 x1 k n c).trans (H.h1 k n c)]
  rfl

theorem target_at : (fun j => View.ld x2 r0_261 (ix3 k 0 j)) = fun c => a1 (ix2 (b k) c) :=
  funext fun j => (ld2 x2 k j).trans (H.h2 k j)

theorem nL_at (h : Fin 64) : lossB (k0_pay2533 x0 x1 x2 x3 x4 x5 x6 x7 x8) (k0_pay2534 x0 x1 x2 x3 x4 x5 x6 x7 x8)
    (k0_pay2535 x0 x1 x2 x3 x4 x5 x6 x7 x8) (View.ld x2 r0_261) (ix2 k h)
    = Spec.loss (Spec.hy a0 a2 a3 a4 a5 a6 (b k) h) fun j => View.ld x2 r0_261 (ix3 k 0 j) :=
  loss_at _ _ _ _ k h _ (nX_at H k h) (nY_at H k h) (nZ_at H k h)

/-- The scalar results a block leaves. -/
abbrev blockTail (x0 : Vec Ideal S64x3x256 .f32) (x1 : Vec Ideal S64x256x3 .f32) (x2 : Vec Ideal S64x1x3 .f32) (x3 : Vec Ideal S3x64 .f32)
  (x4 : Vec Ideal S1x64 .f32) (x5 : Vec Ideal S64x1 .f32) (x6 : Vec Ideal S1x1 .f32) (x7 : Vec Ideal S64x1x192 .i32)
  (x8 : Vec Ideal S256x256 .bf16) : FVec Ideal S64x1x8 .f32 :=
  tail (View.ld x2 r0_261) (k0_pay2533 x0 x1 x2 x3 x4 x5 x6 x7 x8) (k0_pay2534 x0 x1 x2 x3 x4 x5 x6 x7 x8)
    (k0_pay2535 x0 x1 x2 x3 x4 x5 x6 x7 x8)
    (stackS x1 (k0_pay2533 x0 x1 x2 x3 x4 x5 x6 x7 x8) (k0_pay2534 x0 x1 x2 x3 x4 x5 x6 x7 x8) (k0_pay2535 x0 x1 x2 x3 x4 x5 x6 x7 x8)
      (k0_pay2536 x0 x1 x2 x3 x4 x5 x6 x7 x8))

theorem block0 : blockTail x0 x1 x2 x3 x4 x5 x6 x7 x8 (ix3 k 0 0) = Spec.expd a0 a1 a2 a3 a4 a5 a6 (b k) := by
  unfold blockTail; rw [tail0_at _ _ _ _ _ k _ _ (nL_at H k) (nS_at H k), target_at H k]; rfl
theorem block1 : blockTail x0 x1 x2 x3 x4 x5 x6 x7 x8 (ix3 k 0 1) = Spec.top a0 a1 a2 a3 a4 a5 a6 (b k) := by
  unfold blockTail; rw [tail1_at _ _ _ _ _ k _ _ (nL_at H k) (nS_at H k), target_at H k]; rfl
theorem block2 : blockTail x0 x1 x2 x3 x4 x5 x6 x7 x8 (ix3 k 0 2) = Spec.pk a0 a2 a3 a4 a5 a6 (b k) 0 := by
  unfold blockTail; rw [tail2_at _ _ _ _ _ k _ (nS_at H k), nX_at H k]; rfl
theorem block3 : blockTail x0 x1 x2 x3 x4 x5 x6 x7 x8 (ix3 k 0 3) = Spec.pk a0 a2 a3 a4 a5 a6 (b k) 1 := by
  unfold blockTail; rw [tail3_at _ _ _ _ _ k _ (nS_at H k), nY_at H k]; rfl
theorem block4 : blockTail x0 x1 x2 x3 x4 x5 x6 x7 x8 (ix3 k 0 4) = Spec.pk a0 a2 a3 a4 a5 a6 (b k) 2 := by
  unfold blockTail; rw [tail4_at _ _ _ _ _ k _ (nS_at H k), nZ_at H k]; rfl

end Cert.Proof.Ker

end
-- ==== Proof.KEntry.lean ====
/- The kernel's operands as the host leaves them, at an index. -/
module

public import proofs.«01_k».proof.Proof.KBlock

@[expose] public section

set_option maxRecDepth 16384

noncomputable section

open scoped BigOperators

namespace Cert.Proof.Ker

open Idealize.ShloMosaic Idealize.ShloMosaic.TcCoe Idealize.SL.Sem Cert.KernelIdeal Cert.KernelIdeal.Gen

variable (m : (ℓ : Loc nD τ sig) → Buf (Elt Ideal) ℓ) (c : Dev nD)

/-- The points, point by point. -/
theorem entry7 : (V m c main_v7 : FVec Ideal S1024x256x3 .f32)
    = transpose S1024x256x3 [0, 2, 1] (m ((c : Thread nD τ).loc main_arg0)) transposes_S1024x3x256_S1024x256x3_0_2_1 := by
  entry_read; rfl
theorem entry10 : (V m c main_v10 : FVec Ideal S1024x1x3 .f32)
    = shapeCast S1024x1x3 (m ((c : Thread nD τ).loc main_arg1)) shapeCasts_S1024x3_S1024x1x3 := by
  entry_read; rfl
theorem entry11 : (V m c main_v11 : FVec Ideal S1x64 .f32)
    = shapeCast S1x64 (m ((c : Thread nD τ).loc main_arg3)) shapeCasts_S64_S1x64 := by
  entry_read; rfl
theorem entry12 : (V m c main_v12 : FVec Ideal S1x1 .f32)
    = shapeCast S1x1 (m ((c : Thread nD τ).loc main_arg5)) shapeCasts_S1_S1x1 := by
  entry_read; rfl

/-- One column of the sampled triples. -/
def column (a6 : IVec S1024x64x3 32) : Fin 3 → IVec S1024x64 32 :=
  ![shapeCast S1024x64 (extractStridedSlice S1024x64x1 ![0, 0, 0] a6 slices_S1024x64x3_S1024x64x1_0_0_0) shapeCasts_S1024x64x1_S1024x64,
    shapeCast S1024x64 (extractStridedSlice S1024x64x1 ![0, 0, 1] a6 slices_S1024x64x3_S1024x64x1_0_0_1) shapeCasts_S1024x64x1_S1024x64,
    shapeCast S1024x64 (extractStridedSlice S1024x64x1 ![0, 0, 2] a6 slices_S1024x64x3_S1024x64x1_0_0_2) shapeCasts_S1024x64x1_S1024x64]

/-- The columns side by side. -/
def columns (a6 : IVec S1024x64x3 32) : IVec S1024x1x192 32 :=
  shapeCast S1024x1x192 (concatenate S1024x192 1 [⟨S1024x64, column a6 0⟩, ⟨S1024x64, column a6 1⟩, ⟨S1024x64, column a6 2⟩]
    concatenates_S1024x64_S1024x64_S1024x64_S1024x192_d1) shapeCasts_S1024x192_S1024x1x192

theorem entry13 : (V m c main_v13 : IVec S1024x1x192 32) = columns (m ((c : Thread nD τ).loc main_arg6)) := by
  entry_read; rfl

/-- The order table: one strictly below the diagonal. -/
def below : FVec Ideal S256x256 .bf16 :=
  truncf .bf16 (select (cmpi .sge (addi (iotaInDim S256x256 32 0) (broadcastInDim S256x256 ![] bcast_S_S256x256 (constantI S_ 32 4294967295#32))) (iotaInDim S256x256 32 1))
    (broadcastInDim S256x256 ![] bcast_S_S256x256 (constant (F := Ideal) S_ .f32 0x3F800000#32))
    (broadcastInDim S256x256 ![] bcast_S_S256x256 (constant (F := Ideal) S_ .f32 0x00000000#32))) bitsLt_bf16_f32

section

attribute [local irreducible] truncf select broadcastInDim cmpi addi iotaInDim constantI constant

theorem entry14 : (V m c main_v14 : FVec Ideal S256x256 .bf16) = below := by
  show StableHlo.after (List.flatten [hostOps0, hostOps0_1, hostOps0_2]) _ _ = _
  simp only [List.flatten_cons, List.flatten_nil, List.append_nil, List.cons_append, List.nil_append]
  after_results
  try simp only [StableHlo.TRef.ofBuf_toBuf]
  unfold below
  rfl

end

theorem columns_at0 (a6 : IVec S1024x64x3 32) (b : Fin 1024) (h : Fin 64) : columns a6 (ix3 b 0 (col h 0)) = a6 (ix3 b h 0) := by
  show columns a6 (ix3 b 0 ⟨h, by omega⟩) = _
  pointwise [columns, column]
  blk_ext []
theorem columns_at1 (a6 : IVec S1024x64x3 32) (b : Fin 1024) (h : Fin 64) : columns a6 (ix3 b 0 (col h 1)) = a6 (ix3 b h 1) := by
  show columns a6 (ix3 b 0 ⟨64 + h, by omega⟩) = _
  pointwise [columns, column]
  blk_ext []
theorem columns_at2 (a6 : IVec S1024x64x3 32) (b : Fin 1024) (h : Fin 64) : columns a6 (ix3 b 0 (col h 2)) = a6 (ix3 b h 2) := by
  show columns a6 (ix3 b 0 ⟨128 + h, by omega⟩) = _
  pointwise [columns, column]
  rw [dif_neg (by omega), dif_neg (by omega)]
  blk_ext []

theorem columns_at (a6 : IVec S1024x64x3 32) (b : Fin 1024) (h : Fin 64) (j : Fin 3) : columns a6 (ix3 b 0 (col h j)) = a6 (ix3 b h j) := by
  match j with
  | 0 => exact columns_at0 a6 b h
  | 1 => exact columns_at1 a6 b h
  | 2 => exact columns_at2 a6 b h

theorem below_at (i j : Fin 256) : below (ix2 i j) = if j < i then (1 : EReal) else 0 := by
  pointwise [below]
  have hj (n : Fin 256) : (BitVec.ofNat 32 (n : ℕ)).toInt = (n : ℤ) := by
    rw [BitVec.toInt_eq_toNat_of_lt (by rw [BitVec.toNat_ofNat]; omega), BitVec.toNat_ofNat]; omega
  have hi : (IntOp.addi (BitVec.ofNat 32 i) 4294967295#32).toInt = (i : ℤ) - 1 := by
    show (BitVec.ofNat 32 i + 4294967295#32).toInt = _
    rw [BitVec.toInt_add, hj, show (4294967295#32).toInt = -1 by decide, Int.bmod_def]
    omega
  have h : IntOp.cmpi .sge (IntOp.addi (BitVec.ofNat 32 i) 4294967295#32) (BitVec.ofNat 32 j) = BitVec.ofBool (decide (j < i)) := by
    show BitVec.ofBool ((BitVec.ofNat 32 (j : ℕ)).sle (IntOp.addi (BitVec.ofNat 32 i) 4294967295#32)) = _
    unfold BitVec.sle
    rw [hi, hj, decide_eq_decide.mpr (show (j : ℤ) ≤ (i : ℤ) - 1 ↔ j < i by rw [Fin.lt_def]; omega)]
  rw [h]
  by_cases hji : j < i <;> simp [hji, Scalar.select]

end Cert.Proof.Ker

end
-- ==== Proof.KFinal.lean ====
/- The kernel's two output arrays after the last grid step. -/
module

public import proofs.«01_k».proof.Proof.KEntry

@[expose] public section

set_option maxRecDepth 16384

noncomputable section

open scoped BigOperators

namespace Cert.Proof.Ker

open Idealize.ShloMosaic Idealize.ShloMosaic.TcCoe Idealize.SL.Sem Cert.KernelIdeal Cert.KernelIdeal.Gen
open Idealize.ShloMosaic.Pipeline (Dat)

theorem idx : ∀ t : Fin cfg0.N, win0_0.index t = ![t.val, 0, 0] ∧ win0_1.index t = ![t.val, 0, 0] ∧ win0_2.index t = ![t.val, 0, 0]
    ∧ win0_3.index t = ![0, 0] ∧ win0_4.index t = ![0, 0] ∧ win0_5.index t = ![0, 0] ∧ win0_6.index t = ![0, 0]
    ∧ win0_7.index t = ![t.val, 0, 0] ∧ win0_8.index t = ![0, 0] ∧ win0_9.index t = ![t.val, 0, 0] ∧ win0_10.index t = ![t.val, 0, 0] :=
  (by decide +kernel : ∀ t : Fin grid0.N, _)

variable (m : (ℓ : Loc nD τ sig) → Buf (Elt Ideal) ℓ) (c : Dev nD) (t : Fin cfg0.N)

/-- The array row a block's row is. -/
def at_ (t : Fin cfg0.N) (k : Fin 64) : Fin 1024 := ⟨t.val * 64 + k.val, by
  have : t.val < 16 := lt_of_lt_of_eq t.isLt (by decide +kernel : cfg0.N = 16)
  omega⟩

theorem c0 (k : Fin 64) (r : Fin 3) (n : Fin 256) : (show FVec Ideal S64x3x256 .f32 from iblk (F := Ideal) m c 0 t) (ix3 k r n)
    = (m ((c : Thread nD τ).loc main_arg0)) (ix3 (at_ t k) r n) := by
  unfold at_; blk_point [iblk, V, idx t]
theorem c3 (r : Fin 3) (j : Fin 64) : (show FVec Ideal S3x64 .f32 from iblk (F := Ideal) m c 3 t) (ix2 r j)
    = (m ((c : Thread nD τ).loc main_arg2)) (ix2 r j) := by
  blk_point [iblk, V, idx t]
theorem c5 (j : Fin 64) : (show FVec Ideal S64x1 .f32 from iblk (F := Ideal) m c 5 t) (ix2 j 0)
    = (m ((c : Thread nD τ).loc main_arg4)) (ix2 j 0) := by
  blk_point [iblk, V, idx t]

theorem c1 (k : Fin 64) (n : Fin 256) (r : Fin 3) : (show FVec Ideal S64x256x3 .f32 from iblk (F := Ideal) m c 1 t) (ix3 k n r)
    = (m ((c : Thread nD τ).loc main_arg0)) (ix3 (at_ t k) r n) := by
  refine Eq.trans (b := (V m c main_v7 : FVec Ideal S1024x256x3 .f32) (ix3 (at_ t k) n r)) ?_ ?_
  · unfold at_; blk_simp [iblk]; blk_ext [idx t]
  · rw [entry7]; pointwise []
theorem c2 (k : Fin 64) (r : Fin 3) : (show FVec Ideal S64x1x3 .f32 from iblk (F := Ideal) m c 2 t) (ix3 k 0 r)
    = (m ((c : Thread nD τ).loc main_arg1)) (ix2 (at_ t k) r) := by
  refine Eq.trans (b := (V m c main_v10 : FVec Ideal S1024x1x3 .f32) (ix3 (at_ t k) 0 r)) ?_ ?_
  · unfold at_; blk_simp [iblk]; blk_ext [idx t]
  · rw [entry10]; pointwise []
theorem c4 (j : Fin 64) : (show FVec Ideal S1x64 .f32 from iblk (F := Ideal) m c 4 t) (ix2 0 j)
    = (m ((c : Thread nD τ).loc main_arg3)) (ix1 j) := by
  refine Eq.trans (b := (V m c main_v11 : FVec Ideal S1x64 .f32) (ix2 0 j)) ?_ ?_
  · blk_simp [iblk]; blk_ext [idx t]
  · rw [entry11]; pointwise []
theorem c6 : (show FVec Ideal S1x1 .f32 from iblk (F := Ideal) m c 6 t) (ix2 0 0)
    = (m ((c : Thread nD τ).loc main_arg5)) (ix1 0) := by
  refine Eq.trans (b := (V m c main_v12 : FVec Ideal S1x1 .f32) (ix2 0 0)) ?_ ?_
  · blk_simp [iblk]; blk_ext [idx t]
  · rw [entry12]; pointwise []
theorem c7 (k : Fin 64) (h : Fin 64) (j : Fin 3) : (show IVec S64x1x192 32 from iblk (F := Ideal) m c 7 t) (ix3 k 0 (col h j))
    = (m ((c : Thread nD τ).loc main_arg6)) (ix3 (at_ t k) h j) := by
  refine Eq.trans (b := (V m c main_v13 : IVec S1024x1x192 32) (ix3 (at_ t k) 0 (col h j))) ?_ ?_
  · generalize col h j = r
    unfold at_; blk_simp [iblk]; blk_ext [idx t]
  · rw [entry13]; exact columns_at _ _ h j
theorem read8 (X : Buf (Elt Ideal) ((c : Thread nD τ).loc main_v14)) (i j : Fin 256) :
    (show FVec Ideal S256x256 .bf16 from ((cfg0.win 8).blk t).view.read (Elt Ideal) X) (ix2 i j) = (show FVec Ideal S256x256 .bf16 from X) (ix2 i j) := by
  blk_simp []; blk_ext [idx t]

theorem c8 (i j : Fin 256) : (show FVec Ideal S256x256 .bf16 from iblk (F := Ideal) m c 8 t) (ix2 i j) = if j < i then (1 : EReal) else 0 := by
  unfold iblk
  exact (read8 c t (V m c main_v14) i j).trans ((congrFun (entry14 m c) _).trans (below_at i j))

/-- The block's operands at a grid step. -/
theorem cut : Cut (iblk (F := Ideal) m c 0 t) (iblk (F := Ideal) m c 1 t) (iblk (F := Ideal) m c 2 t) (iblk (F := Ideal) m c 3 t)
    (iblk (F := Ideal) m c 4 t) (iblk (F := Ideal) m c 5 t) (iblk (F := Ideal) m c 6 t) (iblk (F := Ideal) m c 7 t) (iblk (F := Ideal) m c 8 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (at_ t) :=
  ⟨c0 m c t, c1 m c t, c2 m c t, c3 m c t, c4 m c t, c5 m c t, c6 m c t, c7 m c t, c8 m c t⟩

/-- The guided points, coordinate by coordinate. -/
def guided (a0 : FVec Ideal ⟨3, ![1024, 3, 256]⟩ .f32) (a2 : FVec Ideal ⟨2, ![3, 64]⟩ .f32)
    (a3 : FVec Ideal ⟨1, ![64]⟩ .f32) (a4 : FVec Ideal ⟨2, ![64, 1]⟩ .f32) (a5 : FVec Ideal ⟨1, ![1]⟩ .f32) : FVec Ideal S1024x3x128 .f32 :=
  fun i => Spec.gd a0 a2 a3 a4 a5 (i 0) (i 2) (i 1)

theorem row_at (g : FVec Ideal S3x128 .f32) (r : Fin 3) (n : Fin 128) : k0_pay615 g (ix3 0 r n) = g (ix2 r n) := by
  pointwise [k0_pay615]

theorem point10 (y : S64x3x128.Idx) : out0_10 (iblk (F := Ideal) m c 0 t) (iblk (F := Ideal) m c 1 t) (iblk (F := Ideal) m c 2 t) (iblk (F := Ideal) m c 3 t)
    (iblk (F := Ideal) m c 4 t) (iblk (F := Ideal) m c 5 t) (iblk (F := Ideal) m c 6 t) (iblk (F := Ideal) m c 7 t) (iblk (F := Ideal) m c 8 t) y
    = Spec.gd (m ((c : Thread nD τ).loc main_arg0)) (m ((c : Thread nD τ).loc main_arg2)) (m ((c : Thread nD τ).loc main_arg3))
        (m ((c : Thread nD τ).loc main_arg4)) (m ((c : Thread nD τ).loc main_arg5)) (at_ t (y 0)) (y 2) (y 1) := by
  rw [out10_rows]
  refine View.canon_ofFn_unit_eq_of_forall (S := S64x3x128) (fun k : Fin 64 => ![k.rev.val, 0, 0]) S1x3x128.size (fun k => in10 k.rev) _ y _ ?_ ?_
  · refine ⟨Fin.rev (n := 64) (y 0), fun a => ?_⟩
    idx_vars y
    match a with
    | 0 => simp
    | 1 => simp
    | 2 => simp
  · intro k
    tile_intro x h
    have e0 : (y 0 : Fin 64) = k.rev := Fin.ext (by omega)
    have e1 : (y 1 : Fin 3) = (x 1 : Fin 3) := Fin.ext h1
    have e2 : (y 2 : Fin 128) = (x 2 : Fin 128) := Fin.ext h2
    have hx : x = ix3 (0 : Fin 1) (x 1 : Fin 3) (x 2 : Fin 128) := by blk_ext []
    rw [hx]
    refine (row_at _ _ _).trans ((rG_at (cut m c t) _ _ _).trans ?_)
    rw [e0, e1, e2]

theorem gd_congr (a0 : FVec Ideal ⟨3, ![1024, 3, 256]⟩ .f32) (a2 : FVec Ideal ⟨2, ![3, 64]⟩ .f32)
    (a3 : FVec Ideal ⟨1, ![64]⟩ .f32) (a4 : FVec Ideal ⟨2, ![64, 1]⟩ .f32) (a5 : FVec Ideal ⟨1, ![1]⟩ .f32)
    {b b' : Fin 1024} {r r' : Fin 128} {e e' : Fin 3} (hb : b.val = b'.val) (hr : r.val = r'.val) (he : e.val = e'.val) :
    Spec.gd a0 a2 a3 a4 a5 b r e = Spec.gd a0 a2 a3 a4 a5 b' r' e' := by
  rw [Fin.ext hb, Fin.ext hr, Fin.ext he]

/-- The guided points' array at the end. -/
theorem final10 : (dats m 0 c).arrAt 10 (cfgs 0).N = guided (m ((c : Thread nD τ).loc main_arg0)) (m ((c : Thread nD τ).loc main_arg2))
    (m ((c : Thread nD τ).loc main_arg3)) (m ((c : Thread nD τ).loc main_arg4)) (m ((c : Thread nD τ).loc main_arg5)) := by
  refine (dats m 0 c).arrAt_eq_of_covers 10 _ (by decide +kernel) fun t _ y => ?_
  blk_simp
  rw [after0_10]
  refine (point10 m c t y).trans ?_
  unfold guided
  refine gd_congr _ _ _ _ _ ?_ ?_ ?_
  · unfold at_; blk_simp [idx t]
  · blk_simp [idx t]
  · blk_simp [idx t]

/-- What an entry of the scalar results' array is: the losses and the normal, by column. -/
def Scalars (a0 : FVec Ideal ⟨3, ![1024, 3, 256]⟩ .f32) (a1 : FVec Ideal ⟨2, ![1024, 3]⟩ .f32) (a2 : FVec Ideal ⟨2, ![3, 64]⟩ .f32)
    (a3 : FVec Ideal ⟨1, ![64]⟩ .f32) (a4 : FVec Ideal ⟨2, ![64, 1]⟩ .f32) (a5 : FVec Ideal ⟨1, ![1]⟩ .f32)
    (a6 : IVec ⟨3, ![1024, 64, 3]⟩ 32) (b : Fin 1024) (j : ℕ) (v : EReal) : Prop :=
  (j = 0 → v = Spec.expd a0 a1 a2 a3 a4 a5 a6 b) ∧ (j = 1 → v = Spec.top a0 a1 a2 a3 a4 a5 a6 b)
    ∧ (j = 2 → v = Spec.pk a0 a2 a3 a4 a5 a6 b 0) ∧ (j = 3 → v = Spec.pk a0 a2 a3 a4 a5 a6 b 1) ∧ (j = 4 → v = Spec.pk a0 a2 a3 a4 a5 a6 b 2)

theorem point9 (k : Fin 64) (j : Fin 8) : Scalars (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (at_ t k) j ((show FVec Ideal S64x1x8 .f32 from out0_9 (iblk (F := Ideal) m c 0 t) (iblk (F := Ideal) m c 1 t) (iblk (F := Ideal) m c 2 t)
      (iblk (F := Ideal) m c 3 t) (iblk (F := Ideal) m c 4 t) (iblk (F := Ideal) m c 5 t) (iblk (F := Ideal) m c 6 t) (iblk (F := Ideal) m c 7 t)
      (iblk (F := Ideal) m c 8 t)) (ix3 k 0 j)) := by
  have H := cut m c t
  rw [out9_rows]
  generalize iblk (F := Ideal) m c 0 t = x0 at *
  generalize iblk (F := Ideal) m c 1 t = x1 at *
  generalize iblk (F := Ideal) m c 2 t = x2 at *
  generalize iblk (F := Ideal) m c 3 t = x3 at *
  generalize iblk (F := Ideal) m c 4 t = x4 at *
  generalize iblk (F := Ideal) m c 5 t = x5 at *
  generalize iblk (F := Ideal) m c 6 t = x6 at *
  generalize iblk (F := Ideal) m c 7 t = x7 at *
  generalize iblk (F := Ideal) m c 8 t = x8 at *
  rw [View.canon_unit_zero]
  · have hj (n : ℕ) (hn : n < 8) (h : j.val = n) : j = ⟨n, hn⟩ := Fin.ext h
    refine ⟨fun h => ?_, fun h => ?_, fun h => ?_, fun h => ?_, fun h => ?_⟩
    · rw [hj 0 (by omega) h]; exact block0 H k
    · rw [hj 1 (by omega) h]; exact block1 H k
    · rw [hj 2 (by omega) h]; exact block2 H k
    · rw [hj 3 (by omega) h]; exact block3 H k
    · rw [hj 4 (by omega) h]; exact block4 H k
  · funext a; match a with | 0 => rfl | 1 => rfl | 2 => rfl

theorem scalars_congr (a0 : FVec Ideal ⟨3, ![1024, 3, 256]⟩ .f32) (a1 : FVec Ideal ⟨2, ![1024, 3]⟩ .f32) (a2 : FVec Ideal ⟨2, ![3, 64]⟩ .f32)
    (a3 : FVec Ideal ⟨1, ![64]⟩ .f32) (a4 : FVec Ideal ⟨2, ![64, 1]⟩ .f32) (a5 : FVec Ideal ⟨1, ![1]⟩ .f32)
    (a6 : IVec ⟨3, ![1024, 64, 3]⟩ 32) {b b' : Fin 1024} {j j' : ℕ} {v v' : EReal} (h : Scalars a0 a1 a2 a3 a4 a5 a6 b' j' v')
    (hb : b.val = b'.val) (hj : j = j') (hv : v = v') : Scalars a0 a1 a2 a3 a4 a5 a6 b j v := by
  rw [Fin.ext hb, hj, hv]; exact h

/-- The scalar results' array at the end. -/
theorem final9 (i : S1024x1x8.Idx) : Scalars (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (i 0) (i 2).val ((dats m 0 c).arrAt 9 (cfgs 0).N i) := by
  refine (dats m 0 c).arrAt_forall_of_covers 9 (fun i v => Scalars (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (i 0) (i 2).val v) (by decide +kernel) (fun t _ y => ?_) i
  blk_simp
  rw [after0_9]
  refine scalars_congr _ _ _ _ _ _ _ (point9 m c t (y 0) (y 2)) ?_ ?_ ?_
  · unfold at_; blk_simp [idx t]
  · blk_simp [idx t]
  · have hy : (y : S64x1x8.Idx) = ix3 (y 0 : Fin 64) (0 : Fin 1) (y 2 : Fin 8) := by blk_ext []
    exact congrArg (out0_9 (iblk (F := Ideal) m c 0 t) (iblk (F := Ideal) m c 1 t) (iblk (F := Ideal) m c 2 t)
      (iblk (F := Ideal) m c 3 t) (iblk (F := Ideal) m c 4 t) (iblk (F := Ideal) m c 5 t) (iblk (F := Ideal) m c 6 t) (iblk (F := Ideal) m c 7 t)
      (iblk (F := Ideal) m c 8 t)) hy

end Cert.Proof.Ker

end
-- ==== Proof.KRun.lean ====
/- The kernel's run, with its four results in the values of `RowSpec`. -/
module

public import proofs.«01_k».proof.Proof.KFinal
public import Idealize.ShloMosaic.Lib.StableHlo.RunRead

@[expose] public section

set_option maxRecDepth 16384

noncomputable section

open scoped BigOperators

namespace Cert.Proof.Ker

open Idealize.ShloMosaic Idealize.ShloMosaic.TcCoe Idealize.SL.Sem Cert.KernelIdeal Cert.KernelIdeal.Gen
open Idealize.ShloMosaic.Pipeline (Dat)

section
variable (W : Valuation τ sig (Elt Ideal))

theorem out17 : StableHlo.after hostOps1 W (Proc.devRef .tc main_v17)
    = shapeCast S1024 (extractStridedSlice S1024x1x1 ![0, 0, 0] (W (Proc.devRef .tc main_v15_0)) slices_S1024x1x8_S1024x1x1_0_0_0) shapeCasts_S1024x1x1_S1024 := by
  after_reads_simp
  rfl
theorem out19 : StableHlo.after hostOps1 W (Proc.devRef .tc main_v19)
    = shapeCast S1024 (extractStridedSlice S1024x1x1 ![0, 0, 1] (W (Proc.devRef .tc main_v15_0)) slices_S1024x1x8_S1024x1x1_0_0_1) shapeCasts_S1024x1x1_S1024 := by
  after_reads_simp
  rfl
theorem out21 : StableHlo.after hostOps1 W (Proc.devRef .tc main_v21)
    = shapeCast S1024x3 (extractStridedSlice S1024x1x3 ![0, 0, 2] (W (Proc.devRef .tc main_v15_0)) slices_S1024x1x8_S1024x1x3_0_0_2) shapeCasts_S1024x1x3_S1024x3 := by
  after_reads_simp
  rfl
theorem out22 : StableHlo.after hostOps1 W (Proc.devRef .tc main_v22)
    = transpose S1024x128x3 [0, 2, 1] (W (Proc.devRef .tc main_v15_1)) transposes_S1024x3x128_S1024x128x3_0_2_1 := by
  after_reads_simp
end

theorem arrays_apart : Function.Injective (Pipeline.arrRef spec0) := by decide

variable (m : (ℓ : Loc nD τ sig) → Buf (Elt Ideal) ℓ) (c : Dev nD)

/-- The buffers at the region's end. -/
abbrev ends : Valuation τ sig (Elt Ideal) := Pipeline.withArrays (cfgs 0).spec c (V0 m c) fun w => (dats m 0 c).arrAt w (cfgs 0).N

theorem ends9 : ends m c (Proc.devRef .tc main_v15_0) = (dats m 0 c).arrAt 9 (cfgs 0).N :=
  Pipeline.withArrays_arr spec0 arrays_apart c (V0 m c) _ 9
theorem ends10 : ends m c (Proc.devRef .tc main_v15_1) = (dats m 0 c).arrAt 10 (cfgs 0).N :=
  Pipeline.withArrays_arr spec0 arrays_apart c (V0 m c) _ 10

/-- The scalar results' array. -/
abbrev scal : FVec Ideal S1024x1x8 .f32 := (dats m 0 c).arrAt 9 (cfgs 0).N

theorem res17 (b : Fin 1024) : (show FVec Ideal S1024 .f32 from Pipeline.afterTail₀ cfgs (dats m) 0 (V0 m) [hostOps1] c main_v17) (ix1 b)
    = Spec.expd (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) b := by
  have h := (final9 m c (ix3 b 0 0)).1 rfl
  have e := (out17 (ends m c)).trans (congrArg (fun s : FVec Ideal S1024x1x8 .f32 =>
    shapeCast S1024 (extractStridedSlice S1024x1x1 ![0, 0, 0] s slices_S1024x1x8_S1024x1x1_0_0_0) shapeCasts_S1024x1x1_S1024) (ends9 m c))
  refine (congrFun e (ix1 b)).trans (Eq.trans ?_ h)
  generalize (dats m 0 c).arrAt 9 (cfgs 0).N = X
  pointwise []

theorem res19 (b : Fin 1024) : (show FVec Ideal S1024 .f32 from Pipeline.afterTail₀ cfgs (dats m) 0 (V0 m) [hostOps1] c main_v19) (ix1 b)
    = Spec.top (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) b := by
  have h := (final9 m c (ix3 b 0 1)).2.1 rfl
  have e := (out19 (ends m c)).trans (congrArg (fun s : FVec Ideal S1024x1x8 .f32 =>
    shapeCast S1024 (extractStridedSlice S1024x1x1 ![0, 0, 1] s slices_S1024x1x8_S1024x1x1_0_0_1) shapeCasts_S1024x1x1_S1024) (ends9 m c))
  refine (congrFun e (ix1 b)).trans (Eq.trans ?_ h)
  generalize (dats m 0 c).arrAt 9 (cfgs 0).N = X
  pointwise []

theorem res21 (b : Fin 1024) (r : Fin 3) : (show FVec Ideal S1024x3 .f32 from Pipeline.afterTail₀ cfgs (dats m) 0 (V0 m) [hostOps1] c main_v21) (ix2 b r)
    = Spec.pk (m ((c : Thread nD τ).loc main_arg0)) (m ((c : Thread nD τ).loc main_arg2))
    (m ((c : Thread nD τ).loc main_arg3)) (m ((c : Thread nD τ).loc main_arg4)) (m ((c : Thread nD τ).loc main_arg5)) (m ((c : Thread nD τ).loc main_arg6)) b r := by
  have h : (show FVec Ideal S1024x1x8 .f32 from (dats m 0 c).arrAt 9 (cfgs 0).N) (ix3 b 0 ⟨2 + r, by omega⟩)
      = Spec.pk (m ((c : Thread nD τ).loc main_arg0)) (m ((c : Thread nD τ).loc main_arg2))
    (m ((c : Thread nD τ).loc main_arg3)) (m ((c : Thread nD τ).loc main_arg4)) (m ((c : Thread nD τ).loc main_arg5)) (m ((c : Thread nD τ).loc main_arg6)) b r := by
    match r with
    | 0 => exact (final9 m c (ix3 b 0 2)).2.2.1 rfl
    | 1 => exact (final9 m c (ix3 b 0 3)).2.2.2.1 rfl
    | 2 => exact (final9 m c (ix3 b 0 4)).2.2.2.2 rfl
  have e := (out21 (ends m c)).trans (congrArg (fun s : FVec Ideal S1024x1x8 .f32 =>
    shapeCast S1024x3 (extractStridedSlice S1024x1x3 ![0, 0, 2] s slices_S1024x1x8_S1024x1x3_0_0_2) shapeCasts_S1024x1x3_S1024x3) (ends9 m c))
  refine (congrFun e (ix2 b r)).trans (Eq.trans ?_ h)
  generalize (dats m 0 c).arrAt 9 (cfgs 0).N = X
  pointwise []

theorem res22 (b : Fin 1024) (n : Fin 128) (r : Fin 3) :
    (show FVec Ideal S1024x128x3 .f32 from Pipeline.afterTail₀ cfgs (dats m) 0 (V0 m) [hostOps1] c main_v22) (ix3 b n r)
    = Spec.gd (m ((c : Thread nD τ).loc main_arg0)) (m ((c : Thread nD τ).loc main_arg2))
    (m ((c : Thread nD τ).loc main_arg3)) (m ((c : Thread nD τ).loc main_arg4)) (m ((c : Thread nD τ).loc main_arg5)) b n r := by
  have e := (out22 (ends m c)).trans (congrArg (fun s : FVec Ideal S1024x3x128 .f32 =>
    transpose S1024x128x3 [0, 2, 1] s transposes_S1024x3x128_S1024x128x3_0_2_1) ((ends10 m c).trans (final10 m c)))
  refine (congrFun e (ix3 b n r)).trans ?_
  pointwise [guided]

/-- The four results' values. -/
def expRes : FVec Ideal S1024 .f32 := fun i => Spec.expd (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (i 0)
def topRes : FVec Ideal S1024 .f32 := fun i => Spec.top (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (i 0)
def pickRes : FVec Ideal S1024x3 .f32 := fun i => Spec.pk (m ((c : Thread nD τ).loc main_arg0)) (m ((c : Thread nD τ).loc main_arg2))
    (m ((c : Thread nD τ).loc main_arg3)) (m ((c : Thread nD τ).loc main_arg4)) (m ((c : Thread nD τ).loc main_arg5)) (m ((c : Thread nD τ).loc main_arg6)) (i 0) (i 1)
def guidedRes : FVec Ideal S1024x128x3 .f32 := fun i => Spec.gd (m ((c : Thread nD τ).loc main_arg0)) (m ((c : Thread nD τ).loc main_arg2))
    (m ((c : Thread nD τ).loc main_arg3)) (m ((c : Thread nD τ).loc main_arg4)) (m ((c : Thread nD τ).loc main_arg5)) (i 0) (i 1) (i 2)

theorem read17 : Pipeline.afterTail₀ cfgs (dats m) 0 (V0 m) [hostOps1] c main_v17 = expRes m c :=
  funext fun (i : S1024.Idx) => by rw [show i = ix1 (i 0) from eq_ix1 i]; exact res17 m c (i 0)
theorem read19 : Pipeline.afterTail₀ cfgs (dats m) 0 (V0 m) [hostOps1] c main_v19 = topRes m c :=
  funext fun (i : S1024.Idx) => by rw [show i = ix1 (i 0) from eq_ix1 i]; exact res19 m c (i 0)
theorem read21 : Pipeline.afterTail₀ cfgs (dats m) 0 (V0 m) [hostOps1] c main_v21 = pickRes m c :=
  funext fun (i : S1024x3.Idx) => by rw [show i = ix2 (i 0) (i 1) from eq_ix2 i]; exact res21 m c (i 0) (i 1)
theorem read22 : Pipeline.afterTail₀ cfgs (dats m) 0 (V0 m) [hostOps1] c main_v22 = guidedRes m c :=
  funext fun (i : S1024x128x3.Idx) => by rw [show i = ix3 (i 0) (i 1) (i 2) from eq_ix3 i]; exact res22 m c (i 0) (i 1) (i 2)

variable (ρ : Dev nD → PrngReg)

set_option backward.isDefEq.respectTransparency.types false in
/-- Every run ends with the four results in the row values, and the arguments as they were. -/
theorem run : θ_run defs (onTc (τ := τ) (main (F := Ideal))) ⟨m, fun _ => 0, ρ⟩ (fun r => ∀ c : Dev nD,
    r.2.mem ((c : Thread nD τ).loc main_v17) = expRes m c
    ∧ r.2.mem ((c : Thread nD τ).loc main_v19) = topRes m c
    ∧ r.2.mem ((c : Thread nD τ).loc main_v21) = pickRes m c
    ∧ r.2.mem ((c : Thread nD τ).loc main_v22) = guidedRes m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun _ h c =>
    ⟨((h.2 c).2 main_v17 (Pipeline.mem_restRefs_of main_v17 (by decide) (by decide))).trans (read17 m c),
     ((h.2 c).2 main_v19 (Pipeline.mem_restRefs_of main_v19 (by decide) (by decide))).trans (read19 m c),
     ((h.2 c).2 main_v21 (Pipeline.mem_restRefs_of main_v21 (by decide) (by decide))).trans (read21 m c),
     ((h.2 c).2 main_v22 (Pipeline.mem_restRefs_of main_v22 (by decide) (by decide))).trans (read22 m c),
     h.1 c⟩) (θ_run_and (unchanged m ρ) (run_main m ρ))

end Cert.Proof.Ker

end
-- ==== Proof.lean ====
/- The claims of `Defs.lean`, proved. -/
module

public import proofs.«01_k».proof.Defs
public import proofs.«01_k».proof.Proof.Gen.Kernel.Frame
public import proofs.«01_k».proof.Proof.RefFinal
public import proofs.«01_k».proof.Proof.KRun
public import Idealize.ShloMosaic.Lib.Claim

@[expose] public section

set_option maxRecDepth 16384

noncomputable section

namespace Cert.Proof

open Idealize.ShloMosaic Idealize.ShloMosaic.TcCoe Idealize.SL.Sem

theorem pre_facts : Cert.Pre_combos_name_points.Facts := ⟨by decide⟩

/-- A number at least 0 and below 128 is one of the 128 numbers. -/
theorem one_of_128 (x : BitVec 32) (lo : (0 : ℤ) ≤ x.toInt) (hi : x.toInt < 128) : ∃ k : Fin 128, x = BitVec.ofNat 32 k := by
  have e : x.toInt = x.toNat := by
    rw [BitVec.toInt_eq_toNat_cond] at lo ⊢
    have := x.isLt
    split_ifs at lo ⊢ with h
    · rfl
    · omega
  exact ⟨⟨x.toNat, by omega⟩, by simp⟩

theorem both (x y : BitVec 1) (h : IntOp.andi x y = 1#1) : x = 1#1 ∧ y = 1#1 := by
  revert h; revert x y; decide

theorem at_least (x y : BitVec 32) (h : IntOp.cmpi .sge x y = 1#1) : y.toInt ≤ x.toInt := by
  by_contra hc
  simp [IntOp.cmpi, BitVec.sle, hc] at h

theorem is_below (x y : BitVec 32) (h : IntOp.cmpi .slt x y = 1#1) : x.toInt < y.toInt := by
  by_contra hc
  simp [IntOp.cmpi, BitVec.slt, hc] at h

/-- The precondition, entry by entry: every sampled number names a guided point. -/
theorem named_of_pre (a0 a1 a2 a3 a4 a5) (a6 : IVec ⟨3, ![1024, 64, 3]⟩ 32)
    (h : letI := pre_facts; Cert.Pre_combos_name_points.fn (F := Ideal) a0 a1 a2 a3 a4 a5 a6 = fun _ => 1#1) : Spec.Named a6 := by
  intro b i j
  have h := congrFun h (ix3 b i j)
  pointwise [Cert.Pre_combos_name_points.fn] at h
  obtain ⟨lo, hi⟩ := both _ _ h
  exact one_of_128 _ (by simpa using at_least _ _ lo) (by simpa using is_below _ _ hi)

section
variable (m : (ℓ : Loc Cert.KernelIdeal.nD Cert.KernelIdeal.τ Cert.KernelIdeal.sig) → Buf (Elt Ideal) ℓ) (c : Dev Cert.KernelIdeal.nD)
open Cert.KernelIdeal

/-- The kernel's results' values are the reference's terms of the same arguments. -/
theorem exp_same (ha : Spec.Named (m ((c : Thread nD τ).loc main_arg6))) :
    Ref.expLoss (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) = Ker.expRes m c :=
  funext fun (i : S1024.Idx) => by
    rw [show i = ix1 (i 0) from eq_ix1 i]; exact Ref.expLoss_at _ _ _ _ _ _ _ ha (i 0)
theorem top_same (ha : Spec.Named (m ((c : Thread nD τ).loc main_arg6))) :
    Ref.topLoss (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) = Ker.topRes m c :=
  funext fun (i : S1024.Idx) => by
    rw [show i = ix1 (i 0) from eq_ix1 i]; exact Ref.topLoss_at _ _ _ _ _ _ _ ha (i 0)
theorem pick_same (ha : Spec.Named (m ((c : Thread nD τ).loc main_arg6))) :
    Ref.pick (m ((c : Thread nD τ).loc main_arg0)) (m ((c : Thread nD τ).loc main_arg2))
      (m ((c : Thread nD τ).loc main_arg3)) (m ((c : Thread nD τ).loc main_arg4)) (m ((c : Thread nD τ).loc main_arg5))
      (m ((c : Thread nD τ).loc main_arg6)) = Ker.pickRes m c :=
  funext fun (i : S1024x3.Idx) => by
    rw [show i = ix2 (i 0) (i 1) from eq_ix2 i]; exact Ref.pick_eq _ _ _ _ _ _ ha (i 0) (i 1)
theorem guided_same :
    Ref.guided (m ((c : Thread nD τ).loc main_arg0)) (m ((c : Thread nD τ).loc main_arg2))
      (m ((c : Thread nD τ).loc main_arg3)) (m ((c : Thread nD τ).loc main_arg4)) (m ((c : Thread nD τ).loc main_arg5)) = Ker.guidedRes m c :=
  funext fun (i : S1024x128x3.Idx) => by
    rw [show i = ix3 (i 0) (i 1) (i 2) from eq_ix3 i]; exact Ref.guided_at _ _ _ _ _ (i 0) (i 1) (i 2)
end

set_option backward.isDefEq.respectTransparency.types false in
/-- From memories agreeing on the arguments, both programs end with the same four results. -/
theorem algebraic : letI := Cert.Kernel.Gen.facts; letI := Cert.KernelIdeal.Gen.facts; letI := Cert.ReferenceIdeal.Gen.facts; letI := pre_facts
    Cert.algebraic_KernelIdeal_ReferenceIdeal_pre_combos_name_points := by
  intro m g m' g' hpre hagree
  have hn : ∀ c : Dev Cert.KernelIdeal.nD, Spec.Named (m ((c : Thread Cert.KernelIdeal.nD Cert.KernelIdeal.τ).loc Cert.KernelIdeal.main_arg6)) :=
    fun c => named_of_pre _ _ _ _ _ _ _ (hpre c)
  refine ⟨fun c => Ker.expRes m c, fun c => Ker.topRes m c, fun c => Ker.pickRes m c, fun c => Ker.guidedRes m c,
    Ker.run m g, ?_⟩
  refine (θ_run Cert.ReferenceIdeal.defs _ _).mono (fun r h c => ?_) (Ref.run m' g')
  obtain ⟨e, t, p, gd, ar⟩ := h c
  obtain ⟨q0, q1, q2, q3, q4, q5, q6⟩ := hagree c
  rw [q0, q1, q2, q3, q4, q5, q6] at e t
  rw [q0, q2, q3, q4, q5, q6] at p
  rw [q0, q2, q3, q4, q5] at gd
  exact ⟨e.trans (exp_same m c (hn c)), t.trans (top_same m c (hn c)), p.trans (pick_same m c (hn c)), gd.trans (guided_same m c), ar⟩

set_option backward.isDefEq.respectTransparency.types false in
/-- Every run of the reference ends with its arguments unchanged and nothing in flight. -/
theorem ref_frame : letI := Cert.ReferenceIdeal.Gen.facts; Cert.quiescent_ReferenceIdeal := by
  intro m ρ _
  exact (θ_run Cert.ReferenceIdeal.defs _ _).mono
    (fun r h => ⟨fun c => (h c).2.2.2.2, Idealize.ShloMosaic.sem_eq_zero_of_no_sems (by decide) r.2⟩) (Ref.run m ρ)

theorem claim : Cert.Claim :=
  ⟨Cert.Kernel.Gen.facts, Cert.KernelIdeal.Gen.facts, Cert.ReferenceIdeal.Gen.facts, pre_facts,
    fun m ρ _ => Cert.Kernel.Gen.frame m ρ, fun m ρ _ => Cert.KernelIdeal.Gen.frame m ρ, fun m ρ _ => Cert.KernelIdeal.Gen.frame m ρ,
    ref_frame, fun m ρ _ => ref_frame m ρ trivial, trivial, algebraic⟩

end Cert.Proof

end
